-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S4x8192 : Shape := ⟨2, ![4, 8192]⟩
abbrev S1x8192x1024 : Shape := ⟨3, ![1, 8192, 1024]⟩
abbrev S32x1x1024 : Shape := ⟨3, ![32, 1, 1024]⟩
abbrev S32x1024x1024 : Shape := ⟨3, ![32, 1024, 1024]⟩
abbrev S8192x1024 : Shape := ⟨2, ![8192, 1024]⟩
abbrev S1x1x1024 : Shape := ⟨3, ![1, 1, 1024]⟩
abbrev S1x1024x1024 : Shape := ⟨3, ![1, 1024, 1024]⟩
abbrev S16x1024 : Shape := ⟨2, ![16, 1024]⟩
abbrev S1040x1024 : Shape := ⟨2, ![1040, 1024]⟩
abbrev S2 : Shape := ⟨1, ![2]⟩
abbrev S1 : Shape := ⟨1, ![1]⟩
abbrev S1x1024 : Shape := ⟨2, ![1, 1024]⟩
abbrev S1x1x1 : Shape := ⟨3, ![1, 1, 1]⟩
abbrev S_ : Shape := ⟨0, ![]⟩
abbrev S8x1024 : Shape := ⟨2, ![8, 1024]⟩
abbrev S1024x1024 : Shape := ⟨2, ![1024, 1024]⟩
abbrev S1024x1 : Shape := ⟨2, ![1024, 1]⟩
abbrev S1x1 : Shape := ⟨2, ![1, 1]⟩
abbrev S1x1023 : Shape := ⟨2, ![1, 1023]⟩
abbrev S1x2 : Shape := ⟨2, ![1, 2]⟩
abbrev S1x1022 : Shape := ⟨2, ![1, 1022]⟩
abbrev S1x4 : Shape := ⟨2, ![1, 4]⟩
abbrev S1x1020 : Shape := ⟨2, ![1, 1020]⟩
abbrev S1x8 : Shape := ⟨2, ![1, 8]⟩
abbrev S1x1016 : Shape := ⟨2, ![1, 1016]⟩
abbrev S1x16 : Shape := ⟨2, ![1, 16]⟩
abbrev S1x1008 : Shape := ⟨2, ![1, 1008]⟩
abbrev S1x32 : Shape := ⟨2, ![1, 32]⟩
abbrev S1x992 : Shape := ⟨2, ![1, 992]⟩
abbrev S1x64 : Shape := ⟨2, ![1, 64]⟩
abbrev S1x960 : Shape := ⟨2, ![1, 960]⟩
abbrev S1x128 : Shape := ⟨2, ![1, 128]⟩
abbrev S1x896 : Shape := ⟨2, ![1, 896]⟩
abbrev S1x256 : Shape := ⟨2, ![1, 256]⟩
abbrev S1x768 : Shape := ⟨2, ![1, 768]⟩
abbrev S1x512 : Shape := ⟨2, ![1, 512]⟩

abbrev nBuf : Space → Nat
  | .hbm => 8
  | .vmem => 8
  | .smem => 1
  | _ => 0

abbrev bufTy : (tb : Table) → Fin (tcTables nBuf tb) → BufTy
  | .hbm, ⟨0, _⟩ => ⟨S4x8192x1024, .f32⟩
  | .hbm, ⟨1, _⟩ => ⟨S4x8192, .i32⟩
  | .hbm, ⟨2, _⟩ => ⟨S1x8192x1024, .f32⟩
  | .hbm, ⟨3, _⟩ => ⟨S32x1x1024, .i32⟩
  | .hbm, ⟨4, _⟩ => ⟨S32x1024x1024, .f32⟩
  | .hbm, ⟨5, _⟩ => ⟨S8192x1024, .f32⟩
  | .hbm, ⟨6, _⟩ => ⟨S32x1024x1024, .f32⟩
  | .hbm, ⟨7, _⟩ => ⟨S4x8192x1024, .f32⟩
  | .local _ .vmem, ⟨0, _⟩ => ⟨S1x1x1024, .i32⟩
  | .local _ .vmem, ⟨1, _⟩ => ⟨S1x1x1024, .i32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S16x1024, .f32⟩
  | .local _ .vmem, ⟨7, _⟩ => ⟨S1040x1024, .f32⟩
  | .local _ .smem, ⟨0, _⟩ => ⟨S1, .i32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch3 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_24 : BitVec 32 := 0#32
  let v60 : BitVec 1 := Scalar.cmpi .eq arg0 c0_i32_24
  let v61 : BitVec 32 := Scalar.extui v60
  let c0_i32_25 : BitVec 32 := 0#32
  let v62 : BitVec 1 := Scalar.cmpi .ne v61 c0_i32_25
  v62

def k0_mult1 (i : grid0.Coords) (v10 : BitVec 32) : BitVec 32 :=
  let c7152_i32 : BitVec 32 := 7152#32
  let c0_i32_4 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  v24

def k0_off1 (i : grid0.Coords) (v10 : BitVec 32) : Fin 2 → Nat :=
  let c7152_i32 : BitVec 32 := 7152#32
  let c0_i32_4 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v121 : BitVec 32 := v24
  let c0_i32_67 : BitVec 32 := 0#32
  ![v121.toNat, 0]
def k0_cond2 (i : grid0.Coords) : BitVec 1 :=
  let arg0 : BitVec 32 := BitVec.ofNat 32 (i 0).val
  let c1_i32_44 : BitVec 32 := 1#32
  let v91 : BitVec 32 := Scalar.addi arg0 c1_i32_44
  let c32_i32 : BitVec 32 := 32#32
  let v92 : BitVec 1 := Scalar.cmpi .slt v91 c32_i32
  let v93 : BitVec 32 := Scalar.extui v92
  let c0_i32_45 : BitVec 32 := 0#32
  let v94 : BitVec 1 := Scalar.cmpi .ne v93 c0_i32_45
  v94

def k0_mult2 (i : grid0.Coords) (v8 : BitVec 32) (v10 : BitVec 32) : BitVec 32 :=
  let c7152_i32_36 : BitVec 32 := 7152#32
  let c0_i32_35 : BitVec 32 := 0#32
  let arg0 : BitVec 32 := BitVec.ofNat 32 (i 0).val
  let c1_i32_26 : BitVec 32 := 1#32
  let v63 : BitVec 32 := Scalar.addi arg0 c1_i32_26
  let c8_i32_27 : BitVec 32 := 8#32
  let c0_i32_28 : BitVec 32 := 0#32
  let v64 : BitVec 1 := Scalar.cmpi .eq c8_i32_27 c0_i32_28
  let c1_i32_29 : BitVec 32 := 1#32
  let v65 : BitVec 32 := Scalar.select v64 c1_i32_29 c8_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c0_i32_33 : BitVec 32 := 0#32
  let v74 : BitVec 1 := Scalar.cmpi .eq v73 c0_i32_33
  let c0_i32_34 : BitVec 32 := 0#32
  let c0_i32 : BitVec 32 := 0#32
  let v9 : BitVec 1 := Scalar.cmpi .eq arg0 c0_i32
  let c0_i32_3 : BitVec 32 := 0#32
  let v11 : BitVec 32 := Scalar.select v9 c0_i32_3 v10
  let v75 : BitVec 32 := Scalar.addi v11 v8
  let v76 : BitVec 32 := Scalar.select v74 c0_i32_34 v75
  let v77 : BitVec 32 := Scalar.maxsi c0_i32_35 v76
  let v78 : BitVec 32 := Scalar.minsi c7152_i32_36 v77
  let c8_i32_37 : BitVec 32 := 8#32
  let c0_i32_38 : BitVec 32 := 0#32
  let v79 : BitVec 1 := Scalar.cmpi .eq c8_i32_37 c0_i32_38
  let c1_i32_39 : BitVec 32 := 1#32
  let v80 : BitVec 32 := Scalar.select v79 c1_i32_39 c8_i32_37
  let v81 : BitVec 32 := Scalar.remsi v78 v80
  let c0_i32_41 : BitVec 32 := 0#32
  let v83 : BitVec 1 := Scalar.cmpi .slt v81 c0_i32_41
  let c0_i32_42 : BitVec 32 := 0#32
  let v84 : BitVec 1 := Scalar.cmpi .slt v80 c0_i32_42
  let v85 : BitVec 1 := Scalar.xori v83 v84
  let c0_i32_40 : BitVec 32 := 0#32
  let v82 : BitVec 1 := Scalar.cmpi .ne v81 c0_i32_40
  let v86 : BitVec 1 := Scalar.andi v85 v82
  let v87 : BitVec 32 := Scalar.addi v81 v80
  let v88 : BitVec 32 := Scalar.select v86 v87 v81
  let v89 : BitVec 32 := Scalar.subi v78 v88
  v89
def k0_off2 (i : grid0.Coords) : Fin 1 → Nat :=
  let arg0 : BitVec 32 := BitVec.ofNat 32 (i 0).val
  let c1_i32_72 : BitVec 32 := 1#32
  let v134 : BitVec 32 := Scalar.addi arg0 c1_i32_72
  let c2_i32_73 : BitVec 32 := 2#32
  let c0_i32_74 : BitVec 32 := 0#32
  let v135 : BitVec 1 := Scalar.cmpi .eq c2_i32_73 c0_i32_74
  let c1_i32_75 : BitVec 32 := 1#32
  let v136 : BitVec 32 := Scalar.select v135 c1_i32_75 c2_i32_73
  let v137 : BitVec 32 := Scalar.remsi v134 v136
  let c0_i32_77 : BitVec 32 := 0#32
  let v139 : BitVec 1 := Scalar.cmpi .slt v137 c0_i32_77
  let c0_i32_78 : BitVec 32 := 0#32
  let v140 : BitVec 1 := Scalar.cmpi .slt v136 c0_i32_78
  let v141 : BitVec 1 := Scalar.xori v139 v140
  let c0_i32_76 : BitVec 32 := 0#32
  let v138 : BitVec 1 := Scalar.cmpi .ne v137 c0_i32_76
  let v142 : BitVec 1 := Scalar.andi v141 v138
  let v143 : BitVec 32 := Scalar.addi v137 v136
  let v144 : BitVec 32 := Scalar.select v142 v143 v137
  ![v144.toNat]
def k0_off3 (i : grid0.Coords) : Fin 2 → Nat :=
  let arg0 : BitVec 32 := BitVec.ofNat 32 (i 0).val
  let c1_i32_64 : BitVec 32 := 1#32
  let v122 : BitVec 32 := Scalar.addi arg0 c1_i32_64
  let c2_i32_65 : BitVec 32 := 2#32
  let c0_i32_66 : BitVec 32 := 0#32
  let v123 : BitVec 1 := Scalar.cmpi .eq c2_i32_65 c0_i32_66
  let c1_i32_67 : BitVec 32 := 1#32
  let v124 : BitVec 32 := Scalar.select v123 c1_i32_67 c2_i32_65
  let v125 : BitVec 32 := Scalar.remsi v122 v124
  let c0_i32_69 : BitVec 32 := 0#32
  let v127 : BitVec 1 := Scalar.cmpi .slt v125 c0_i32_69
  let c0_i32_70 : BitVec 32 := 0#32
  let v128 : BitVec 1 := Scalar.cmpi .slt v124 c0_i32_70
  let v129 : BitVec 1 := Scalar.xori v127 v128
  let c0_i32_68 : BitVec 32 := 0#32
  let v126 : BitVec 1 := Scalar.cmpi .ne v125 c0_i32_68
  let v130 : BitVec 1 := Scalar.andi v129 v126
  let v131 : BitVec 32 := Scalar.addi v125 v124
  let v132 : BitVec 32 := Scalar.select v130 v131 v125
  let c8_i32_71 : BitVec 32 := 8#32
  let v133 : BitVec 32 := Scalar.muli v132 c8_i32_71
  let c0_i32_79 : BitVec 32 := 0#32
  ![v133.toNat, 0]
def k0_off4 (i : grid0.Coords) (v8 : BitVec 32) (v10 : BitVec 32) : Fin 2 → Nat :=
  let c7152_i32_36 : BitVec 32 := 7152#32
  let c0_i32_35 : BitVec 32 := 0#32
  let arg0 : BitVec 32 := BitVec.ofNat 32 (i 0).val
  let c1_i32_26 : BitVec 32 := 1#32
  let v63 : BitVec 32 := Scalar.addi arg0 c1_i32_26
  let c8_i32_27 : BitVec 32 := 8#32
  let c0_i32_28 : BitVec 32 := 0#32
  let v64 : BitVec 1 := Scalar.cmpi .eq c8_i32_27 c0_i32_28
  let c1_i32_29 : BitVec 32 := 1#32
  let v65 : BitVec 32 := Scalar.select v64 c1_i32_29 c8_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c0_i32_33 : BitVec 32 := 0#32
  let v74 : BitVec 1 := Scalar.cmpi .eq v73 c0_i32_33
  let c0_i32_34 : BitVec 32 := 0#32
  let c0_i32 : BitVec 32 := 0#32
  let v9 : BitVec 1 := Scalar.cmpi .eq arg0 c0_i32
  let c0_i32_3 : BitVec 32 := 0#32
  let v11 : BitVec 32 := Scalar.select v9 c0_i32_3 v10
  let v75 : BitVec 32 := Scalar.addi v11 v8
  let v76 : BitVec 32 := Scalar.select v74 c0_i32_34 v75
  let v77 : BitVec 32 := Scalar.maxsi c0_i32_35 v76
  let v78 : BitVec 32 := Scalar.minsi c7152_i32_36 v77
  let c8_i32_37 : BitVec 32 := 8#32
  let c0_i32_38 : BitVec 32 := 0#32
  let v79 : BitVec 1 := Scalar.cmpi .eq c8_i32_37 c0_i32_38
  let c1_i32_39 : BitVec 32 := 1#32
  let v80 : BitVec 32 := Scalar.select v79 c1_i32_39 c8_i32_37
  let v81 : BitVec 32 := Scalar.remsi v78 v80
  let c0_i32_41 : BitVec 32 := 0#32
  let v83 : BitVec 1 := Scalar.cmpi .slt v81 c0_i32_41
  let c0_i32_42 : BitVec 32 := 0#32
  let v84 : BitVec 1 := Scalar.cmpi .slt v80 c0_i32_42
  let v85 : BitVec 1 := Scalar.xori v83 v84
  let c0_i32_40 : BitVec 32 := 0#32
  let v82 : BitVec 1 := Scalar.cmpi .ne v81 c0_i32_40
  let v86 : BitVec 1 := Scalar.andi v85 v82
  let v87 : BitVec 32 := Scalar.addi v81 v80
  let v88 : BitVec 32 := Scalar.select v86 v87 v81
  let v89 : BitVec 32 := Scalar.subi v78 v88
  let v121 : BitVec 32 := v89
  let c0_i32_80 : BitVec 32 := 0#32
  ![v121.toNat, 0]
def k0_mult3 (i : grid0.Coords) (v10 : BitVec 32) : BitVec 32 :=
  let c7152_i32 : BitVec 32 := 7152#32
  let c0_i32_4 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  v24
def k0_off5 (i : grid0.Coords) : Fin 1 → Nat :=
  let arg0 : BitVec 32 := BitVec.ofNat 32 (i 0).val
  let c2_i32 : BitVec 32 := 2#32
  let c0_i32_19 : BitVec 32 := 0#32
  let v50 : BitVec 1 := Scalar.cmpi .eq c2_i32 c0_i32_19
  let c1_i32_20 : BitVec 32 := 1#32
  let v51 : BitVec 32 := Scalar.select v50 c1_i32_20 c2_i32
  let v52 : BitVec 32 := Scalar.remsi arg0 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  ![v59.toNat]
def k0_off6 (i : grid0.Coords) : Fin 2 → Nat :=
  let arg0 : BitVec 32 := BitVec.ofNat 32 (i 0).val
  let c2_i32 : BitVec 32 := 2#32
  let c0_i32_19 : BitVec 32 := 0#32
  let v50 : BitVec 1 := Scalar.cmpi .eq c2_i32 c0_i32_19
  let c1_i32_20 : BitVec 32 := 1#32
  let v51 : BitVec 32 := Scalar.select v50 c1_i32_20 c2_i32
  let v52 : BitVec 32 := Scalar.remsi arg0 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c8_i32_46 : BitVec 32 := 8#32
  let v96 : BitVec 32 := Scalar.muli v59 c8_i32_46
  let c0_i32_47 : BitVec 32 := 0#32
  ![v96.toNat, 0]
def k0_off7 (i : grid0.Coords) (v10 : BitVec 32) : Fin 2 → Nat :=
  let c7152_i32 : BitVec 32 := 7152#32
  let c0_i32_4 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v95 : BitVec 32 := v24
  let c0_i32_48 : BitVec 32 := 0#32
  ![v95.toNat, 0]
def k0_off8 (i : grid0.Coords) : Fin 2 → Nat :=
  let arg0 : BitVec 32 := BitVec.ofNat 32 (i 0).val
  let c2_i32 : BitVec 32 := 2#32
  let c0_i32_19 : BitVec 32 := 0#32
  let v50 : BitVec 1 := Scalar.cmpi .eq c2_i32 c0_i32_19
  let c1_i32_20 : BitVec 32 := 1#32
  let v51 : BitVec 32 := Scalar.select v50 c1_i32_20 c2_i32
  let v52 : BitVec 32 := Scalar.remsi arg0 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c8_i32_49 : BitVec 32 := 8#32
  let v101 : BitVec 32 := Scalar.muli v59 c8_i32_49
  let v102 : Index := Scalar.indexCast v101
  let c0_50 : Index := 0#32
  ![v102.toNat, 0]
@[reducible] def k0_t1_loop (i : grid0.Coords) (v8 : BitVec 32) (v10 : BitVec 32) : Scf.Loop 32 :=
  let c1_i32_64 : BitVec 32 := 1#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v25 : BitVec 32 := Scalar.addi v11 v8
  let c8191_i32 : BitVec 32 := 8191#32
  let v26 : BitVec 32 := Scalar.minsi v25 c8191_i32
  let c7152_i32 : BitVec 32 := 7152#32
  let c0_i32_4 : BitVec 32 := 0#32
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v27 : BitVec 32 := Scalar.subi v26 v24
  let c0_i32_12 : BitVec 32 := 0#32
  let v32 : BitVec 1 := Scalar.cmpi .sgt v27 c0_i32_12
  let v33 : BitVec 32 := Scalar.extui v32
  let c0_i32_13 : BitVec 32 := 0#32
  let v34 : BitVec 1 := Scalar.cmpi .slt v27 c0_i32_13
  let v35 : BitVec 32 := Scalar.extui v34
  let v36 : BitVec 32 := Scalar.subi v33 v35
  let c8_i32_11 : BitVec 32 := 8#32
  let c0_i32_14 : BitVec 32 := 0#32
  let v37 : BitVec 1 := Scalar.cmpi .sgt c8_i32_11 c0_i32_14
  let v38 : BitVec 32 := Scalar.extui v37
  let c0_i32_15 : BitVec 32 := 0#32
  let v39 : BitVec 1 := Scalar.cmpi .slt c8_i32_11 c0_i32_15
  let v40 : BitVec 32 := Scalar.extui v39
  let v41 : BitVec 32 := Scalar.subi v38 v40
  let v42 : BitVec 1 := Scalar.cmpi .ne v36 v41
  let v43 : BitVec 32 := Scalar.remsi v27 c8_i32_11
  let c0_i32_16 : BitVec 32 := 0#32
  let v44 : BitVec 1 := Scalar.cmpi .ne v43 c0_i32_16
  let v45 : BitVec 1 := Scalar.andi v42 v44
  let v31 : BitVec 32 := Scalar.divsi v27 c8_i32_11
  let c1_i32_17 : BitVec 32 := 1#32
  let v46 : BitVec 32 := Scalar.subi v31 c1_i32_17
  let v47 : BitVec 32 := Scalar.select v45 v46 v31
  let c1_i32_18 : BitVec 32 := 1#32
  let v48 : BitVec 32 := Scalar.addi v47 c1_i32_18
  let v121 : BitVec 32 := Scalar.subi v48 c1_i32_64
  let c1_i32_66 : BitVec 32 := 1#32
  let v123 : BitVec 32 := Scalar.divsi v121 c1_i32_66
  let v124 : BitVec 32 := Scalar.muli v123 c1_i32_66
  let v125 : BitVec 32 := Scalar.addi c1_i32_64 v124
  let c1_i32_67 : BitVec 32 := 1#32
  ⟨c1_i32_64, v125, c1_i32_67⟩
def k0_cond3 (i : grid0.Coords) (v8 : BitVec 32) (v10 : BitVec 32) : BitVec 1 :=
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v25 : BitVec 32 := Scalar.addi v11 v8
  let c8191_i32 : BitVec 32 := 8191#32
  let v26 : BitVec 32 := Scalar.minsi v25 c8191_i32
  let c7152_i32 : BitVec 32 := 7152#32
  let c0_i32_4 : BitVec 32 := 0#32
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v27 : BitVec 32 := Scalar.subi v26 v24
  let c0_i32_12 : BitVec 32 := 0#32
  let v32 : BitVec 1 := Scalar.cmpi .sgt v27 c0_i32_12
  let v33 : BitVec 32 := Scalar.extui v32
  let c0_i32_13 : BitVec 32 := 0#32
  let v34 : BitVec 1 := Scalar.cmpi .slt v27 c0_i32_13
  let v35 : BitVec 32 := Scalar.extui v34
  let v36 : BitVec 32 := Scalar.subi v33 v35
  let c8_i32_11 : BitVec 32 := 8#32
  let c0_i32_14 : BitVec 32 := 0#32
  let v37 : BitVec 1 := Scalar.cmpi .sgt c8_i32_11 c0_i32_14
  let v38 : BitVec 32 := Scalar.extui v37
  let c0_i32_15 : BitVec 32 := 0#32
  let v39 : BitVec 1 := Scalar.cmpi .slt c8_i32_11 c0_i32_15
  let v40 : BitVec 32 := Scalar.extui v39
  let v41 : BitVec 32 := Scalar.subi v38 v40
  let v42 : BitVec 1 := Scalar.cmpi .ne v36 v41
  let v43 : BitVec 32 := Scalar.remsi v27 c8_i32_11
  let c0_i32_16 : BitVec 32 := 0#32
  let v44 : BitVec 1 := Scalar.cmpi .ne v43 c0_i32_16
  let v45 : BitVec 1 := Scalar.andi v42 v44
  let v31 : BitVec 32 := Scalar.divsi v27 c8_i32_11
  let c1_i32_17 : BitVec 32 := 1#32
  let v46 : BitVec 32 := Scalar.subi v31 c1_i32_17
  let v47 : BitVec 32 := Scalar.select v45 v46 v31
  let c1_i32_18 : BitVec 32 := 1#32
  let v48 : BitVec 32 := Scalar.addi v47 c1_i32_18
  let c1_i32_53 : BitVec 32 := 1#32
  let v107 : BitVec 1 := Scalar.cmpi .sgt v48 c1_i32_53
  let v108 : BitVec 32 := Scalar.extui v107
  let c0_i32_54 : BitVec 32 := 0#32
  let v109 : BitVec 1 := Scalar.cmpi .ne v108 c0_i32_54
  v109

def k0_mult4 (i : grid0.Coords) (v8 : BitVec 32) (v10 : BitVec 32) (k0_t1 : Fin (k0_t1_loop i v8 v10).trips) : BitVec 32 :=
  let c7152_i32 : BitVec 32 := 7152#32
  let c0_i32_4 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let c8_i32_69 : BitVec 32 := 8#32
  let c1_i32_64 : BitVec 32 := 1#32
  let c1_i32_67 : BitVec 32 := 1#32
  let arg9 : BitVec 32 := Scf.iv c1_i32_64 c1_i32_67 k0_t1
  let v128 : BitVec 32 := Scalar.muli c8_i32_69 arg9
  let v129 : BitVec 32 := Scalar.addi v24 v128
  v129
def k0_off9 (i : grid0.Coords) : Fin 1 → Nat :=
  let arg0 : BitVec 32 := BitVec.ofNat 32 (i 0).val
  let c2_i32 : BitVec 32 := 2#32
  let c0_i32_19 : BitVec 32 := 0#32
  let v50 : BitVec 1 := Scalar.cmpi .eq c2_i32 c0_i32_19
  let c1_i32_20 : BitVec 32 := 1#32
  let v51 : BitVec 32 := Scalar.select v50 c1_i32_20 c2_i32
  let v52 : BitVec 32 := Scalar.remsi arg0 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  ![v59.toNat]
def k0_off10 (i : grid0.Coords) (v8 : BitVec 32) (v10 : BitVec 32) (k0_t1 : Fin (k0_t1_loop i v8 v10).trips) : Fin 2 → Nat :=
  let c8_i32_70 : BitVec 32 := 8#32
  let c1_i32_64 : BitVec 32 := 1#32
  let c1_i32_67 : BitVec 32 := 1#32
  let arg9 : BitVec 32 := Scf.iv c1_i32_64 c1_i32_67 k0_t1
  let v131 : BitVec 32 := Scalar.muli c8_i32_70 arg9
  let c0_i32_71 : BitVec 32 := 0#32
  ![v131.toNat, 0]
def k0_off11 (i : grid0.Coords) (v8 : BitVec 32) (v10 : BitVec 32) (k0_t1 : Fin (k0_t1_loop i v8 v10).trips) : Fin 2 → Nat :=
  let c7152_i32 : BitVec 32 := 7152#32
  let c0_i32_4 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let c8_i32_69 : BitVec 32 := 8#32
  let c1_i32_64 : BitVec 32 := 1#32
  let c1_i32_67 : BitVec 32 := 1#32
  let arg9 : BitVec 32 := Scf.iv c1_i32_64 c1_i32_67 k0_t1
  let v128 : BitVec 32 := Scalar.muli c8_i32_69 arg9
  let v129 : BitVec 32 := Scalar.addi v24 v128
  let v130 : BitVec 32 := v129
  let c0_i32_72 : BitVec 32 := 0#32
  ![v130.toNat, 0]
@[reducible] def k0_t2_loop (i : grid0.Coords) (v8 : BitVec 32) (v10 : BitVec 32) : Scf.Loop 32 :=
  let c1_i32_64 : BitVec 32 := 1#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v25 : BitVec 32 := Scalar.addi v11 v8
  let c8191_i32 : BitVec 32 := 8191#32
  let v26 : BitVec 32 := Scalar.minsi v25 c8191_i32
  let c7152_i32 : BitVec 32 := 7152#32
  let c0_i32_4 : BitVec 32 := 0#32
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v27 : BitVec 32 := Scalar.subi v26 v24
  let c0_i32_12 : BitVec 32 := 0#32
  let v32 : BitVec 1 := Scalar.cmpi .sgt v27 c0_i32_12
  let v33 : BitVec 32 := Scalar.extui v32
  let c0_i32_13 : BitVec 32 := 0#32
  let v34 : BitVec 1 := Scalar.cmpi .slt v27 c0_i32_13
  let v35 : BitVec 32 := Scalar.extui v34
  let v36 : BitVec 32 := Scalar.subi v33 v35
  let c8_i32_11 : BitVec 32 := 8#32
  let c0_i32_14 : BitVec 32 := 0#32
  let v37 : BitVec 1 := Scalar.cmpi .sgt c8_i32_11 c0_i32_14
  let v38 : BitVec 32 := Scalar.extui v37
  let c0_i32_15 : BitVec 32 := 0#32
  let v39 : BitVec 1 := Scalar.cmpi .slt c8_i32_11 c0_i32_15
  let v40 : BitVec 32 := Scalar.extui v39
  let v41 : BitVec 32 := Scalar.subi v38 v40
  let v42 : BitVec 1 := Scalar.cmpi .ne v36 v41
  let v43 : BitVec 32 := Scalar.remsi v27 c8_i32_11
  let c0_i32_16 : BitVec 32 := 0#32
  let v44 : BitVec 1 := Scalar.cmpi .ne v43 c0_i32_16
  let v45 : BitVec 1 := Scalar.andi v42 v44
  let v31 : BitVec 32 := Scalar.divsi v27 c8_i32_11
  let c1_i32_17 : BitVec 32 := 1#32
  let v46 : BitVec 32 := Scalar.subi v31 c1_i32_17
  let v47 : BitVec 32 := Scalar.select v45 v46 v31
  let c1_i32_18 : BitVec 32 := 1#32
  let v48 : BitVec 32 := Scalar.addi v47 c1_i32_18
  let v121 : BitVec 32 := Scalar.subi v48 c1_i32_64
  let c1_i32_66 : BitVec 32 := 1#32
  let v123 : BitVec 32 := Scalar.divsi v121 c1_i32_66
  let v124 : BitVec 32 := Scalar.muli v123 c1_i32_66
  let v125 : BitVec 32 := Scalar.addi c1_i32_64 v124
  let v122 : BitVec 32 := Scalar.addi c1_i32_64 v121
  let c1_i32_68 : BitVec 32 := 1#32
  ⟨v125, v122, c1_i32_68⟩
def k0_mult5 (i : grid0.Coords) (v8 : BitVec 32) (v10 : BitVec 32) (k0_t2 : Fin (k0_t2_loop i v8 v10).trips) : BitVec 32 :=
  let c7152_i32 : BitVec 32 := 7152#32
  let c0_i32_4 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let c8_i32_69 : BitVec 32 := 8#32
  let c1_i32_64 : BitVec 32 := 1#32
  let v25 : BitVec 32 := Scalar.addi v11 v8
  let c8191_i32 : BitVec 32 := 8191#32
  let v26 : BitVec 32 := Scalar.minsi v25 c8191_i32
  let v27 : BitVec 32 := Scalar.subi v26 v24
  let c0_i32_12 : BitVec 32 := 0#32
  let v32 : BitVec 1 := Scalar.cmpi .sgt v27 c0_i32_12
  let v33 : BitVec 32 := Scalar.extui v32
  let c0_i32_13 : BitVec 32 := 0#32
  let v34 : BitVec 1 := Scalar.cmpi .slt v27 c0_i32_13
  let v35 : BitVec 32 := Scalar.extui v34
  let v36 : BitVec 32 := Scalar.subi v33 v35
  let c8_i32_11 : BitVec 32 := 8#32
  let c0_i32_14 : BitVec 32 := 0#32
  let v37 : BitVec 1 := Scalar.cmpi .sgt c8_i32_11 c0_i32_14
  let v38 : BitVec 32 := Scalar.extui v37
  let c0_i32_15 : BitVec 32 := 0#32
  let v39 : BitVec 1 := Scalar.cmpi .slt c8_i32_11 c0_i32_15
  let v40 : BitVec 32 := Scalar.extui v39
  let v41 : BitVec 32 := Scalar.subi v38 v40
  let v42 : BitVec 1 := Scalar.cmpi .ne v36 v41
  let v43 : BitVec 32 := Scalar.remsi v27 c8_i32_11
  let c0_i32_16 : BitVec 32 := 0#32
  let v44 : BitVec 1 := Scalar.cmpi .ne v43 c0_i32_16
  let v45 : BitVec 1 := Scalar.andi v42 v44
  let v31 : BitVec 32 := Scalar.divsi v27 c8_i32_11
  let c1_i32_17 : BitVec 32 := 1#32
  let v46 : BitVec 32 := Scalar.subi v31 c1_i32_17
  let v47 : BitVec 32 := Scalar.select v45 v46 v31
  let c1_i32_18 : BitVec 32 := 1#32
  let v48 : BitVec 32 := Scalar.addi v47 c1_i32_18
  let v121 : BitVec 32 := Scalar.subi v48 c1_i32_64
  let c1_i32_66 : BitVec 32 := 1#32
  let v123 : BitVec 32 := Scalar.divsi v121 c1_i32_66
  let v124 : BitVec 32 := Scalar.muli v123 c1_i32_66
  let v125 : BitVec 32 := Scalar.addi c1_i32_64 v124
  let c1_i32_68 : BitVec 32 := 1#32
  let arg9 : BitVec 32 := Scf.iv v125 c1_i32_68 k0_t2
  let v128 : BitVec 32 := Scalar.muli c8_i32_69 arg9
  let v129 : BitVec 32 := Scalar.addi v24 v128
  v129
def k0_off12 (i : grid0.Coords) : Fin 1 → Nat :=
  let arg0 : BitVec 32 := BitVec.ofNat 32 (i 0).val
  let c2_i32 : BitVec 32 := 2#32
  let c0_i32_19 : BitVec 32 := 0#32
  let v50 : BitVec 1 := Scalar.cmpi .eq c2_i32 c0_i32_19
  let c1_i32_20 : BitVec 32 := 1#32
  let v51 : BitVec 32 := Scalar.select v50 c1_i32_20 c2_i32
  let v52 : BitVec 32 := Scalar.remsi arg0 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  ![v59.toNat]
def k0_off13 (i : grid0.Coords) (v8 : BitVec 32) (v10 : BitVec 32) (k0_t2 : Fin (k0_t2_loop i v8 v10).trips) : Fin 2 → Nat :=
  let c8_i32_70 : BitVec 32 := 8#32
  let c1_i32_64 : BitVec 32 := 1#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v25 : BitVec 32 := Scalar.addi v11 v8
  let c8191_i32 : BitVec 32 := 8191#32
  let v26 : BitVec 32 := Scalar.minsi v25 c8191_i32
  let c7152_i32 : BitVec 32 := 7152#32
  let c0_i32_4 : BitVec 32 := 0#32
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v27 : BitVec 32 := Scalar.subi v26 v24
  let c0_i32_12 : BitVec 32 := 0#32
  let v32 : BitVec 1 := Scalar.cmpi .sgt v27 c0_i32_12
  let v33 : BitVec 32 := Scalar.extui v32
  let c0_i32_13 : BitVec 32 := 0#32
  let v34 : BitVec 1 := Scalar.cmpi .slt v27 c0_i32_13
  let v35 : BitVec 32 := Scalar.extui v34
  let v36 : BitVec 32 := Scalar.subi v33 v35
  let c8_i32_11 : BitVec 32 := 8#32
  let c0_i32_14 : BitVec 32 := 0#32
  let v37 : BitVec 1 := Scalar.cmpi .sgt c8_i32_11 c0_i32_14
  let v38 : BitVec 32 := Scalar.extui v37
  let c0_i32_15 : BitVec 32 := 0#32
  let v39 : BitVec 1 := Scalar.cmpi .slt c8_i32_11 c0_i32_15
  let v40 : BitVec 32 := Scalar.extui v39
  let v41 : BitVec 32 := Scalar.subi v38 v40
  let v42 : BitVec 1 := Scalar.cmpi .ne v36 v41
  let v43 : BitVec 32 := Scalar.remsi v27 c8_i32_11
  let c0_i32_16 : BitVec 32 := 0#32
  let v44 : BitVec 1 := Scalar.cmpi .ne v43 c0_i32_16
  let v45 : BitVec 1 := Scalar.andi v42 v44
  let v31 : BitVec 32 := Scalar.divsi v27 c8_i32_11
  let c1_i32_17 : BitVec 32 := 1#32
  let v46 : BitVec 32 := Scalar.subi v31 c1_i32_17
  let v47 : BitVec 32 := Scalar.select v45 v46 v31
  let c1_i32_18 : BitVec 32 := 1#32
  let v48 : BitVec 32 := Scalar.addi v47 c1_i32_18
  let v121 : BitVec 32 := Scalar.subi v48 c1_i32_64
  let c1_i32_66 : BitVec 32 := 1#32
  let v123 : BitVec 32 := Scalar.divsi v121 c1_i32_66
  let v124 : BitVec 32 := Scalar.muli v123 c1_i32_66
  let v125 : BitVec 32 := Scalar.addi c1_i32_64 v124
  let c1_i32_68 : BitVec 32 := 1#32
  let arg9 : BitVec 32 := Scf.iv v125 c1_i32_68 k0_t2
  let v131 : BitVec 32 := Scalar.muli c8_i32_70 arg9
  let c0_i32_71 : BitVec 32 := 0#32
  ![v131.toNat, 0]
def k0_off14 (i : grid0.Coords) (v8 : BitVec 32) (v10 : BitVec 32) (k0_t2 : Fin (k0_t2_loop i v8 v10).trips) : Fin 2 → Nat :=
  let c7152_i32 : BitVec 32 := 7152#32
  let c0_i32_4 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let c8_i32_69 : BitVec 32 := 8#32
  let c1_i32_64 : BitVec 32 := 1#32
  let v25 : BitVec 32 := Scalar.addi v11 v8
  let c8191_i32 : BitVec 32 := 8191#32
  let v26 : BitVec 32 := Scalar.minsi v25 c8191_i32
  let v27 : BitVec 32 := Scalar.subi v26 v24
  let c0_i32_12 : BitVec 32 := 0#32
  let v32 : BitVec 1 := Scalar.cmpi .sgt v27 c0_i32_12
  let v33 : BitVec 32 := Scalar.extui v32
  let c0_i32_13 : BitVec 32 := 0#32
  let v34 : BitVec 1 := Scalar.cmpi .slt v27 c0_i32_13
  let v35 : BitVec 32 := Scalar.extui v34
  let v36 : BitVec 32 := Scalar.subi v33 v35
  let c8_i32_11 : BitVec 32 := 8#32
  let c0_i32_14 : BitVec 32 := 0#32
  let v37 : BitVec 1 := Scalar.cmpi .sgt c8_i32_11 c0_i32_14
  let v38 : BitVec 32 := Scalar.extui v37
  let c0_i32_15 : BitVec 32 := 0#32
  let v39 : BitVec 1 := Scalar.cmpi .slt c8_i32_11 c0_i32_15
  let v40 : BitVec 32 := Scalar.extui v39
  let v41 : BitVec 32 := Scalar.subi v38 v40
  let v42 : BitVec 1 := Scalar.cmpi .ne v36 v41
  let v43 : BitVec 32 := Scalar.remsi v27 c8_i32_11
  let c0_i32_16 : BitVec 32 := 0#32
  let v44 : BitVec 1 := Scalar.cmpi .ne v43 c0_i32_16
  let v45 : BitVec 1 := Scalar.andi v42 v44
  let v31 : BitVec 32 := Scalar.divsi v27 c8_i32_11
  let c1_i32_17 : BitVec 32 := 1#32
  let v46 : BitVec 32 := Scalar.subi v31 c1_i32_17
  let v47 : BitVec 32 := Scalar.select v45 v46 v31
  let c1_i32_18 : BitVec 32 := 1#32
  let v48 : BitVec 32 := Scalar.addi v47 c1_i32_18
  let v121 : BitVec 32 := Scalar.subi v48 c1_i32_64
  let c1_i32_66 : BitVec 32 := 1#32
  let v123 : BitVec 32 := Scalar.divsi v121 c1_i32_66
  let v124 : BitVec 32 := Scalar.muli v123 c1_i32_66
  let v125 : BitVec 32 := Scalar.addi c1_i32_64 v124
  let c1_i32_68 : BitVec 32 := 1#32
  let arg9 : BitVec 32 := Scf.iv v125 c1_i32_68 k0_t2
  let v128 : BitVec 32 := Scalar.muli c8_i32_69 arg9
  let v129 : BitVec 32 := Scalar.addi v24 v128
  let v130 : BitVec 32 := v129
  let c0_i32_72 : BitVec 32 := 0#32
  ![v130.toNat, 0]
def k0_off15 (i : grid0.Coords) (v10 : BitVec 32) : Fin 2 → Nat :=
  let c8191_i32_10 : BitVec 32 := 8191#32
  let c0_i32_9 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v28 : BitVec 32 := Scalar.maxsi c0_i32_9 v11
  let v29 : BitVec 32 := Scalar.minsi c8191_i32_10 v28
  let c7152_i32 : BitVec 32 := 7152#32
  let c0_i32_4 : BitVec 32 := 0#32
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v30 : BitVec 32 := Scalar.subi v29 v24
  let v121 : Index := Scalar.indexCast v30
  let c0_64 : Index := 0#32
  ![v121.toNat, 0]
def k0_cond4 (i : grid0.Coords) (v8 : BitVec 32) (v10 : BitVec 32) : BitVec 1 :=
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v25 : BitVec 32 := Scalar.addi v11 v8
  let c8191_i32 : BitVec 32 := 8191#32
  let v26 : BitVec 32 := Scalar.minsi v25 c8191_i32
  let c7152_i32 : BitVec 32 := 7152#32
  let c0_i32_4 : BitVec 32 := 0#32
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v27 : BitVec 32 := Scalar.subi v26 v24
  let c8191_i32_10 : BitVec 32 := 8191#32
  let c0_i32_9 : BitVec 32 := 0#32
  let v28 : BitVec 32 := Scalar.maxsi c0_i32_9 v11
  let v29 : BitVec 32 := Scalar.minsi c8191_i32_10 v28
  let v30 : BitVec 32 := Scalar.subi v29 v24
  let v49 : BitVec 32 := Scalar.subi v27 v30
  let c0_i32_58 : BitVec 32 := 0#32
  let v112 : BitVec 1 := Scalar.cmpi .eq v49 c0_i32_58
  let v113 : BitVec 32 := Scalar.extui v112
  let c0_i32_59 : BitVec 32 := 0#32
  let v114 : BitVec 1 := Scalar.cmpi .ne v113 c0_i32_59
  v114

def k0_off16 (i : grid0.Coords) (v10 : BitVec 32) : Fin 2 → Nat :=
  let c8191_i32_10 : BitVec 32 := 8191#32
  let c0_i32_9 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v28 : BitVec 32 := Scalar.maxsi c0_i32_9 v11
  let v29 : BitVec 32 := Scalar.minsi c8191_i32_10 v28
  let c7152_i32 : BitVec 32 := 7152#32
  let c0_i32_4 : BitVec 32 := 0#32
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v30 : BitVec 32 := Scalar.subi v29 v24
  let v131 : Index := Scalar.indexCast v30
  let c0_66 : Index := 0#32
  ![v131.toNat, 0]
def k0_cond5 (i : grid0.Coords) (v8 : BitVec 32) (v10 : BitVec 32) : BitVec 1 :=
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v25 : BitVec 32 := Scalar.addi v11 v8
  let c8191_i32 : BitVec 32 := 8191#32
  let v26 : BitVec 32 := Scalar.minsi v25 c8191_i32
  let c7152_i32 : BitVec 32 := 7152#32
  let c0_i32_4 : BitVec 32 := 0#32
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v27 : BitVec 32 := Scalar.subi v26 v24
  let c8191_i32_10 : BitVec 32 := 8191#32
  let c0_i32_9 : BitVec 32 := 0#32
  let v28 : BitVec 32 := Scalar.maxsi c0_i32_9 v11
  let v29 : BitVec 32 := Scalar.minsi c8191_i32_10 v28
  let v30 : BitVec 32 := Scalar.subi v29 v24
  let v49 : BitVec 32 := Scalar.subi v27 v30
  let c1_i32_60 : BitVec 32 := 1#32
  let v115 : BitVec 1 := Scalar.cmpi .eq v49 c1_i32_60
  let v116 : BitVec 32 := Scalar.extui v115
  let c0_i32_61 : BitVec 32 := 0#32
  let v117 : BitVec 1 := Scalar.cmpi .ne v116 c0_i32_61
  v117

def k0_off17 (i : grid0.Coords) (v10 : BitVec 32) : Fin 2 → Nat :=
  let c8191_i32_10 : BitVec 32 := 8191#32
  let c0_i32_9 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v28 : BitVec 32 := Scalar.maxsi c0_i32_9 v11
  let v29 : BitVec 32 := Scalar.minsi c8191_i32_10 v28
  let c7152_i32 : BitVec 32 := 7152#32
  let c0_i32_4 : BitVec 32 := 0#32
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v30 : BitVec 32 := Scalar.subi v29 v24
  let c1_i32_67 : BitVec 32 := 1#32
  let v133 : BitVec 32 := Scalar.addi v30 c1_i32_67
  let v134 : Index := Scalar.indexCast v133
  let c0_68 : Index := 0#32
  ![v134.toNat, 0]
@[reducible] def k0_t3_loop (v8 : BitVec 32) : Scf.Loop 32 :=
  let c0_i32_74 : BitVec 32 := 0#32
  let v163 : BitVec 32 := Scalar.subi v8 c0_i32_74
  let c1_i32_75 : BitVec 32 := 1#32
  let v165 : BitVec 32 := Scalar.divsi v163 c1_i32_75
  let v166 : BitVec 32 := Scalar.muli v165 c1_i32_75
  let v167 : BitVec 32 := Scalar.addi c0_i32_74 v166
  let c1_i32_76 : BitVec 32 := 1#32
  ⟨c0_i32_74, v167, c1_i32_76⟩
def k0_cond6 (i : grid0.Coords) (v8 : BitVec 32) (v10 : BitVec 32) : BitVec 1 :=
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v25 : BitVec 32 := Scalar.addi v11 v8
  let c8191_i32 : BitVec 32 := 8191#32
  let v26 : BitVec 32 := Scalar.minsi v25 c8191_i32
  let c7152_i32 : BitVec 32 := 7152#32
  let c0_i32_4 : BitVec 32 := 0#32
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v27 : BitVec 32 := Scalar.subi v26 v24
  let c8191_i32_10 : BitVec 32 := 8191#32
  let c0_i32_9 : BitVec 32 := 0#32
  let v28 : BitVec 32 := Scalar.maxsi c0_i32_9 v11
  let v29 : BitVec 32 := Scalar.minsi c8191_i32_10 v28
  let v30 : BitVec 32 := Scalar.subi v29 v24
  let v49 : BitVec 32 := Scalar.subi v27 v30
  let c1_i32_62 : BitVec 32 := 1#32
  let v118 : BitVec 1 := Scalar.cmpi .sgt v49 c1_i32_62
  let v119 : BitVec 32 := Scalar.extui v118
  let c0_i32_63 : BitVec 32 := 0#32
  let v120 : BitVec 1 := Scalar.cmpi .ne v119 c0_i32_63
  v120

@[reducible] def k0_t4_loop (v8 : BitVec 32) : Scf.Loop 32 :=
  let c0_i32_74 : BitVec 32 := 0#32
  let v163 : BitVec 32 := Scalar.subi v8 c0_i32_74
  let c1_i32_75 : BitVec 32 := 1#32
  let v165 : BitVec 32 := Scalar.divsi v163 c1_i32_75
  let v166 : BitVec 32 := Scalar.muli v165 c1_i32_75
  let v167 : BitVec 32 := Scalar.addi c0_i32_74 v166
  let v164 : BitVec 32 := Scalar.addi c0_i32_74 v163
  let c1_i32_77 : BitVec 32 := 1#32
  ⟨v167, v164, c1_i32_77⟩
def k0_off18 (i : grid0.Coords) (v10 : BitVec 32) : Fin 2 → Nat :=
  let c8191_i32_10 : BitVec 32 := 8191#32
  let c0_i32_9 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v28 : BitVec 32 := Scalar.maxsi c0_i32_9 v11
  let v29 : BitVec 32 := Scalar.minsi c8191_i32_10 v28
  let c7152_i32 : BitVec 32 := 7152#32
  let c0_i32_4 : BitVec 32 := 0#32
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v30 : BitVec 32 := Scalar.subi v29 v24
  let v172 : Index := Scalar.indexCast v30
  let c0_78 : Index := 0#32
  ![v172.toNat, 0]
@[reducible] def k0_t5_loop (i : grid0.Coords) (v8 : BitVec 32) (v10 : BitVec 32) : Scf.Loop 32 :=
  let c8191_i32_10 : BitVec 32 := 8191#32
  let c0_i32_9 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v28 : BitVec 32 := Scalar.maxsi c0_i32_9 v11
  let v29 : BitVec 32 := Scalar.minsi c8191_i32_10 v28
  let c7152_i32 : BitVec 32 := 7152#32
  let c0_i32_4 : BitVec 32 := 0#32
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v30 : BitVec 32 := Scalar.subi v29 v24
  let c1_i32_82 : BitVec 32 := 1#32
  let v179 : BitVec 32 := Scalar.addi v30 c1_i32_82
  let v25 : BitVec 32 := Scalar.addi v11 v8
  let c8191_i32 : BitVec 32 := 8191#32
  let v26 : BitVec 32 := Scalar.minsi v25 c8191_i32
  let v27 : BitVec 32 := Scalar.subi v26 v24
  let c1_i32_83 : BitVec 32 := 1#32
  let v180 : BitVec 32 := Scalar.addi v27 c1_i32_83
  let v181 : BitVec 32 := Scalar.subi v180 v179
  let c1_i32_85 : BitVec 32 := 1#32
  let v183 : BitVec 32 := Scalar.divsi v181 c1_i32_85
  let v184 : BitVec 32 := Scalar.muli v183 c1_i32_85
  let v185 : BitVec 32 := Scalar.addi v179 v184
  let c1_i32_86 : BitVec 32 := 1#32
  ⟨v179, v185, c1_i32_86⟩
def k0_off19 (i : grid0.Coords) (v8 : BitVec 32) (v10 : BitVec 32) (k0_t5 : Fin (k0_t5_loop i v8 v10).trips) : Fin 2 → Nat :=
  let c8191_i32_10 : BitVec 32 := 8191#32
  let c0_i32_9 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v28 : BitVec 32 := Scalar.maxsi c0_i32_9 v11
  let v29 : BitVec 32 := Scalar.minsi c8191_i32_10 v28
  let c7152_i32 : BitVec 32 := 7152#32
  let c0_i32_4 : BitVec 32 := 0#32
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v30 : BitVec 32 := Scalar.subi v29 v24
  let c1_i32_82 : BitVec 32 := 1#32
  let v179 : BitVec 32 := Scalar.addi v30 c1_i32_82
  let c1_i32_86 : BitVec 32 := 1#32
  let arg9 : BitVec 32 := Scf.iv v179 c1_i32_86 k0_t5
  let v188 : Index := Scalar.indexCast arg9
  let c0_88 : Index := 0#32
  ![v188.toNat, 0]
@[reducible] def k0_t6_loop (i : grid0.Coords) (v8 : BitVec 32) (v10 : BitVec 32) : Scf.Loop 32 :=
  let c8191_i32_10 : BitVec 32 := 8191#32
  let c0_i32_9 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v28 : BitVec 32 := Scalar.maxsi c0_i32_9 v11
  let v29 : BitVec 32 := Scalar.minsi c8191_i32_10 v28
  let c7152_i32 : BitVec 32 := 7152#32
  let c0_i32_4 : BitVec 32 := 0#32
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v30 : BitVec 32 := Scalar.subi v29 v24
  let c1_i32_82 : BitVec 32 := 1#32
  let v179 : BitVec 32 := Scalar.addi v30 c1_i32_82
  let v25 : BitVec 32 := Scalar.addi v11 v8
  let c8191_i32 : BitVec 32 := 8191#32
  let v26 : BitVec 32 := Scalar.minsi v25 c8191_i32
  let v27 : BitVec 32 := Scalar.subi v26 v24
  let c1_i32_83 : BitVec 32 := 1#32
  let v180 : BitVec 32 := Scalar.addi v27 c1_i32_83
  let v181 : BitVec 32 := Scalar.subi v180 v179
  let c1_i32_85 : BitVec 32 := 1#32
  let v183 : BitVec 32 := Scalar.divsi v181 c1_i32_85
  let v184 : BitVec 32 := Scalar.muli v183 c1_i32_85
  let v185 : BitVec 32 := Scalar.addi v179 v184
  let v182 : BitVec 32 := Scalar.addi v179 v181
  let c1_i32_87 : BitVec 32 := 1#32
  ⟨v185, v182, c1_i32_87⟩
def k0_off20 (i : grid0.Coords) (v8 : BitVec 32) (v10 : BitVec 32) (k0_t6 : Fin (k0_t6_loop i v8 v10).trips) : Fin 2 → Nat :=
  let c8191_i32_10 : BitVec 32 := 8191#32
  let c0_i32_9 : BitVec 32 := 0#32
  let arg0 : BitVec 32 := BitVec.ofNat 32 (i 0).val
  let c0_i32 : BitVec 32 := 0#32
  let v9 : BitVec 1 := Scalar.cmpi .eq arg0 c0_i32
  let c0_i32_3 : BitVec 32 := 0#32
  let v11 : BitVec 32 := Scalar.select v9 c0_i32_3 v10
  let v28 : BitVec 32 := Scalar.maxsi c0_i32_9 v11
  let v29 : BitVec 32 := Scalar.minsi c8191_i32_10 v28
  let c7152_i32 : BitVec 32 := 7152#32
  let c0_i32_4 : BitVec 32 := 0#32
  let v12 : BitVec 32 := Scalar.maxsi c0_i32_4 v11
  let v13 : BitVec 32 := Scalar.minsi c7152_i32 v12
  let c8_i32 : BitVec 32 := 8#32
  let c0_i32_5 : BitVec 32 := 0#32
  let v14 : BitVec 1 := Scalar.cmpi .eq c8_i32 c0_i32_5
  let c1_i32 : BitVec 32 := 1#32
  let v15 : BitVec 32 := Scalar.select v14 c1_i32 c8_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : BitVec 32 := Scalar.subi v13 v23
  let v30 : BitVec 32 := Scalar.subi v29 v24
  let c1_i32_82 : BitVec 32 := 1#32
  let v179 : BitVec 32 := Scalar.addi v30 c1_i32_82
  let v25 : BitVec 32 := Scalar.addi v11 v8
  let c8191_i32 : BitVec 32 := 8191#32
  let v26 : BitVec 32 := Scalar.minsi v25 c8191_i32
  let v27 : BitVec 32 := Scalar.subi v26 v24
  let c1_i32_83 : BitVec 32 := 1#32
  let v180 : BitVec 32 := Scalar.addi v27 c1_i32_83
  let v181 : BitVec 32 := Scalar.subi v180 v179
  let c1_i32_85 : BitVec 32 := 1#32
  let v183 : BitVec 32 := Scalar.divsi v181 c1_i32_85
  let v184 : BitVec 32 := Scalar.muli v183 c1_i32_85
  let v185 : BitVec 32 := Scalar.addi v179 v184
  let c1_i32_87 : BitVec 32 := 1#32
  let arg9 : BitVec 32 := Scf.iv v185 c1_i32_87 k0_t6
  let v188 : Index := Scalar.indexCast arg9
  let c0_88 : Index := 0#32
  ![v188.toNat, 0]

def k0_chk1 (i : grid0.Coords) (v8 : BitVec 32) (v10 : BitVec 32) : Prop :=
  (∀ (k0_h1 : k0_cond1 i = 1#1), 8 ∣ (k0_mult1 i v10).toNat) ∧
  (∀ (k0_h1 : k0_cond1 i = 1#1), ∀ a, (k0_off1 i v10) a + S8x1024.size a ≤ S8192x1024.size a) ∧
  (∀ (k0_h2 : k0_cond2 i = 1#1), 8 ∣ (k0_mult2 i v8 v10).toNat) ∧
  (∀ (k0_h2 : k0_cond2 i = 1#1), ∀ a, (k0_off4 i v8 v10) a + S8x1024.size a ≤ S8192x1024.size a) ∧
  (8 ∣ (k0_mult3 i v10).toNat) ∧
  (∀ a, (k0_off7 i v10) a + S8x1024.size a ≤ S8192x1024.size a) ∧
  (∀ (k0_h3 : k0_cond3 i v8 v10 = 1#1), (k0_t1_loop i v8 v10).OK) ∧
  (∀ k0_t1 : Fin (k0_t1_loop i v8 v10).trips, ∀ (k0_h3 : k0_cond3 i v8 v10 = 1#1), 8 ∣ (k0_mult4 i v8 v10 k0_t1).toNat) ∧
  (∀ k0_t1 : Fin (k0_t1_loop i v8 v10).trips, ∀ (k0_h3 : k0_cond3 i v8 v10 = 1#1), ∀ a, (k0_off10 i v8 v10 k0_t1) a + S8x1024.size a ≤ S1040x1024.size a) ∧
  (∀ k0_t1 : Fin (k0_t1_loop i v8 v10).trips, ∀ (k0_h3 : k0_cond3 i v8 v10 = 1#1), ∀ a, (k0_off11 i v8 v10 k0_t1) a + S8x1024.size a ≤ S8192x1024.size a) ∧
  (∀ (k0_h3 : k0_cond3 i v8 v10 = 1#1), (k0_t2_loop i v8 v10).OK) ∧
  (∀ k0_t2 : Fin (k0_t2_loop i v8 v10).trips, ∀ (k0_h3 : k0_cond3 i v8 v10 = 1#1), 8 ∣ (k0_mult5 i v8 v10 k0_t2).toNat) ∧
  (∀ k0_t2 : Fin (k0_t2_loop i v8 v10).trips, ∀ (k0_h3 : k0_cond3 i v8 v10 = 1#1), ∀ a, (k0_off13 i v8 v10 k0_t2) a + S8x1024.size a ≤ S1040x1024.size a) ∧
  (∀ k0_t2 : Fin (k0_t2_loop i v8 v10).trips, ∀ (k0_h3 : k0_cond3 i v8 v10 = 1#1), ∀ a, (k0_off14 i v8 v10 k0_t2) a + S8x1024.size a ≤ S8192x1024.size a) ∧
  (∀ (k0_h4 : k0_cond4 i v8 v10 = 1#1), ∀ a, (k0_off15 i v10) a + S1x1024.size a ≤ S1040x1024.size a) ∧
  (∀ (k0_h5 : k0_cond5 i v8 v10 = 1#1), ∀ a, (k0_off16 i v10) a + S1x1024.size a ≤ S1040x1024.size a) ∧
  (∀ (k0_h5 : k0_cond5 i v8 v10 = 1#1), ∀ a, (k0_off17 i v10) a + S1x1024.size a ≤ S1040x1024.size a) ∧
  (∀ (k0_h6 : k0_cond6 i v8 v10 = 1#1), (k0_t3_loop v8).OK) ∧
  (∀ (k0_h6 : k0_cond6 i v8 v10 = 1#1), (k0_t4_loop v8).OK) ∧
  (∀ (k0_h6 : k0_cond6 i v8 v10 = 1#1), ∀ a, (k0_off18 i v10) a + S1x1024.size a ≤ S1040x1024.size a) ∧
  (∀ (k0_h6 : k0_cond6 i v8 v10 = 1#1), (k0_t5_loop i v8 v10).OK) ∧
  (∀ k0_t5 : Fin (k0_t5_loop i v8 v10).trips, ∀ (k0_h6 : k0_cond6 i v8 v10 = 1#1), ∀ a, (k0_off19 i v8 v10 k0_t5) a + S1x1024.size a ≤ S1040x1024.size a) ∧
  (∀ (k0_h6 : k0_cond6 i v8 v10 = 1#1), (k0_t6_loop i v8 v10).OK) ∧
  (∀ k0_t6 : Fin (k0_t6_loop i v8 v10).trips, ∀ (k0_h6 : k0_cond6 i v8 v10 = 1#1), ∀ a, (k0_off20 i v8 v10 k0_t6) a + S1x1024.size a ≤ S1040x1024.size a)
theorem k0_mult1_dvd : ∀ (i : grid0.Coords) (v8 : BitVec 32) (v10 : BitVec 32) (k0_hw1 : k0_chk1 i v8 v10), ∀ (k0_h1 : k0_cond1 i = 1#1), 8 ∣ (k0_mult1 i v10).toNat := fun i v8 v10 k0_hw1 k0_h1 => k0_hw1.1 k0_h1
theorem k0_off1_inb : ∀ (i : grid0.Coords) (v8 : BitVec 32) (v10 : BitVec 32) (k0_hw1 : k0_chk1 i v8 v10), ∀ (k0_h1 : k0_cond1 i = 1#1), ∀ a, (k0_off1 i v10) a + S8x1024.size a ≤ S8192x1024.size a := fun i v8 v10 k0_hw1 k0_h1 => k0_hw1.2.1 k0_h1
theorem k0_mult2_dvd : ∀ (i : grid0.Coords) (v8 : BitVec 32) (v10 : BitVec 32) (k0_hw1 : k0_chk1 i v8 v10), ∀ (k0_h2 : k0_cond2 i = 1#1), 8 ∣ (k0_mult2 i v8 v10).toNat := fun i v8 v10 k0_hw1 k0_h2 => k0_hw1.2.2.1 k0_h2
theorem k0_off4_inb : ∀ (i : grid0.Coords) (v8 : BitVec 32) (v10 : BitVec 32) (k0_hw1 : k0_chk1 i v8 v10), ∀ (k0_h2 : k0_cond2 i = 1#1), ∀ a, (k0_off4 i v8 v10) a + S8x1024.size a ≤ S8192x1024.size a := fun i v8 v10 k0_hw1 k0_h2 => k0_hw1.2.2.2.1 k0_h2
theorem k0_mult3_dvd : ∀ (i : grid0.Coords) (v8 : BitVec 32) (v10 : BitVec 32) (k0_hw1 : k0_chk1 i v8 v10), 8 ∣ (k0_mult3 i v10).toNat := fun i v8 v10 k0_hw1 => k0_hw1.2.2.2.2.1
theorem k0_off7_inb : ∀ (i : grid0.Coords) (v8 : BitVec 32) (v10 : BitVec 32) (k0_hw1 : k0_chk1 i v8 v10), ∀ a, (k0_off7 i v10) a + S8x1024.size a ≤ S8192x1024.size a := fun i v8 v10 k0_hw1 => k0_hw1.2.2.2.2.2.1
theorem k0_t1_ok : ∀ (i : grid0.Coords) (v8 : BitVec 32) (v10 : BitVec 32) (k0_hw1 : k0_chk1 i v8 v10), ∀ (k0_h3 : k0_cond3 i v8 v10 = 1#1), (k0_t1_loop i v8 v10).OK := fun i v8 v10 k0_hw1 k0_h3 => k0_hw1.2.2.2.2.2.2.1 k0_h3
theorem k0_mult4_dvd : ∀ (i : grid0.Coords) (v8 : BitVec 32) (v10 : BitVec 32) (k0_hw1 : k0_chk1 i v8 v10) (k0_t1 : Fin (k0_t1_loop i v8 v10).trips), ∀ (k0_h3 : k0_cond3 i v8 v10 = 1#1), 8 ∣ (k0_mult4 i v8 v10 k0_t1).toNat := fun i v8 v10 k0_hw1 k0_t1 k0_h3 => k0_hw1.2.2.2.2.2.2.2.1 k0_t1 k0_h3
theorem k0_off10_inb : ∀ (i : grid0.Coords) (v8 : BitVec 32) (v10 : BitVec 32) (k0_hw1 : k0_chk1 i v8 v10) (k0_t1 : Fin (k0_t1_loop i v8 v10).trips), ∀ (k0_h3 : k0_cond3 i v8 v10 = 1#1), ∀ a, (k0_off10 i v8 v10 k0_t1) a + S8x1024.size a ≤ S1040x1024.size a := fun i v8 v10 k0_hw1 k0_t1 k0_h3 => k0_hw1.2.2.2.2.2.2.2.2.1 k0_t1 k0_h3
theorem k0_off11_inb : ∀ (i : grid0.Coords) (v8 : BitVec 32) (v10 : BitVec 32) (k0_hw1 : k0_chk1 i v8 v10) (k0_t1 : Fin (k0_t1_loop i v8 v10).trips), ∀ (k0_h3 : k0_cond3 i v8 v10 = 1#1), ∀ a, (k0_off11 i v8 v10 k0_t1) a + S8x1024.size a ≤ S8192x1024.size a := fun i v8 v10 k0_hw1 k0_t1 k0_h3 => k0_hw1.2.2.2.2.2.2.2.2.2.1 k0_t1 k0_h3
theorem k0_t2_ok : ∀ (i : grid0.Coords) (v8 : BitVec 32) (v10 : BitVec 32) (k0_hw1 : k0_chk1 i v8 v10), ∀ (k0_h3 : k0_cond3 i v8 v10 = 1#1), (k0_t2_loop i v8 v10).OK := fun i v8 v10 k0_hw1 k0_h3 => k0_hw1.2.2.2.2.2.2.2.2.2.2.1 k0_h3
theorem k0_mult5_dvd : ∀ (i : grid0.Coords) (v8 : BitVec 32) (v10 : BitVec 32) (k0_hw1 : k0_chk1 i v8 v10) (k0_t2 : Fin (k0_t2_loop i v8 v10).trips), ∀ (k0_h3 : k0_cond3 i v8 v10 = 1#1), 8 ∣ (k0_mult5 i v8 v10 k0_t2).toNat := fun i v8 v10 k0_hw1 k0_t2 k0_h3 => k0_hw1.2.2.2.2.2.2.2.2.2.2.2.1 k0_t2 k0_h3
theorem k0_off13_inb : ∀ (i : grid0.Coords) (v8 : BitVec 32) (v10 : BitVec 32) (k0_hw1 : k0_chk1 i v8 v10) (k0_t2 : Fin (k0_t2_loop i v8 v10).trips), ∀ (k0_h3 : k0_cond3 i v8 v10 = 1#1), ∀ a, (k0_off13 i v8 v10 k0_t2) a + S8x1024.size a ≤ S1040x1024.size a := fun i v8 v10 k0_hw1 k0_t2 k0_h3 => k0_hw1.2.2.2.2.2.2.2.2.2.2.2.2.1 k0_t2 k0_h3
theorem k0_off14_inb : ∀ (i : grid0.Coords) (v8 : BitVec 32) (v10 : BitVec 32) (k0_hw1 : k0_chk1 i v8 v10) (k0_t2 : Fin (k0_t2_loop i v8 v10).trips), ∀ (k0_h3 : k0_cond3 i v8 v10 = 1#1), ∀ a, (k0_off14 i v8 v10 k0_t2) a + S8x1024.size a ≤ S8192x1024.size a := fun i v8 v10 k0_hw1 k0_t2 k0_h3 => k0_hw1.2.2.2.2.2.2.2.2.2.2.2.2.2.1 k0_t2 k0_h3
theorem k0_off15_inb : ∀ (i : grid0.Coords) (v8 : BitVec 32) (v10 : BitVec 32) (k0_hw1 : k0_chk1 i v8 v10), ∀ (k0_h4 : k0_cond4 i v8 v10 = 1#1), ∀ a, (k0_off15 i v10) a + S1x1024.size a ≤ S1040x1024.size a := fun i v8 v10 k0_hw1 k0_h4 => k0_hw1.2.2.2.2.2.2.2.2.2.2.2.2.2.2.1 k0_h4
theorem k0_off16_inb : ∀ (i : grid0.Coords) (v8 : BitVec 32) (v10 : BitVec 32) (k0_hw1 : k0_chk1 i v8 v10), ∀ (k0_h5 : k0_cond5 i v8 v10 = 1#1), ∀ a, (k0_off16 i v10) a + S1x1024.size a ≤ S1040x1024.size a := fun i v8 v10 k0_hw1 k0_h5 => k0_hw1.2.2.2.2.2.2.2.2.2.2.2.2.2.2.2.1 k0_h5
theorem k0_off17_inb : ∀ (i : grid0.Coords) (v8 : BitVec 32) (v10 : BitVec 32) (k0_hw1 : k0_chk1 i v8 v10), ∀ (k0_h5 : k0_cond5 i v8 v10 = 1#1), ∀ a, (k0_off17 i v10) a + S1x1024.size a ≤ S1040x1024.size a := fun i v8 v10 k0_hw1 k0_h5 => k0_hw1.2.2.2.2.2.2.2.2.2.2.2.2.2.2.2.2.1 k0_h5
theorem k0_t3_ok : ∀ (i : grid0.Coords) (v8 : BitVec 32) (v10 : BitVec 32) (k0_hw1 : k0_chk1 i v8 v10), ∀ (k0_h6 : k0_cond6 i v8 v10 = 1#1), (k0_t3_loop v8).OK := fun i v8 v10 k0_hw1 k0_h6 => k0_hw1.2.2.2.2.2.2.2.2.2.2.2.2.2.2.2.2.2.1 k0_h6
theorem k0_t4_ok : ∀ (i : grid0.Coords) (v8 : BitVec 32) (v10 : BitVec 32) (k0_hw1 : k0_chk1 i v8 v10), ∀ (k0_h6 : k0_cond6 i v8 v10 = 1#1), (k0_t4_loop v8).OK := fun i v8 v10 k0_hw1 k0_h6 => k0_hw1.2.2.2.2.2.2.2.2.2.2.2.2.2.2.2.2.2.2.1 k0_h6
theorem k0_off18_inb : ∀ (i : grid0.Coords) (v8 : BitVec 32) (v10 : BitVec 32) (k0_hw1 : k0_chk1 i v8 v10), ∀ (k0_h6 : k0_cond6 i v8 v10 = 1#1), ∀ a, (k0_off18 i v10) a + S1x1024.size a ≤ S1040x1024.size a := fun i v8 v10 k0_hw1 k0_h6 => k0_hw1.2.2.2.2.2.2.2.2.2.2.2.2.2.2.2.2.2.2.2.1 k0_h6
theorem k0_t5_ok : ∀ (i : grid0.Coords) (v8 : BitVec 32) (v10 : BitVec 32) (k0_hw1 : k0_chk1 i v8 v10), ∀ (k0_h6 : k0_cond6 i v8 v10 = 1#1), (k0_t5_loop i v8 v10).OK := fun i v8 v10 k0_hw1 k0_h6 => k0_hw1.2.2.2.2.2.2.2.2.2.2.2.2.2.2.2.2.2.2.2.2.1 k0_h6
theorem k0_off19_inb : ∀ (i : grid0.Coords) (v8 : BitVec 32) (v10 : BitVec 32) (k0_hw1 : k0_chk1 i v8 v10) (k0_t5 : Fin (k0_t5_loop i v8 v10).trips), ∀ (k0_h6 : k0_cond6 i v8 v10 = 1#1), ∀ a, (k0_off19 i v8 v10 k0_t5) a + S1x1024.size a ≤ S1040x1024.size a := fun i v8 v10 k0_hw1 k0_t5 k0_h6 => k0_hw1.2.2.2.2.2.2.2.2.2.2.2.2.2.2.2.2.2.2.2.2.2.1 k0_t5 k0_h6
theorem k0_t6_ok : ∀ (i : grid0.Coords) (v8 : BitVec 32) (v10 : BitVec 32) (k0_hw1 : k0_chk1 i v8 v10), ∀ (k0_h6 : k0_cond6 i v8 v10 = 1#1), (k0_t6_loop i v8 v10).OK := fun i v8 v10 k0_hw1 k0_h6 => k0_hw1.2.2.2.2.2.2.2.2.2.2.2.2.2.2.2.2.2.2.2.2.2.2.1 k0_h6
theorem k0_off20_inb : ∀ (i : grid0.Coords) (v8 : BitVec 32) (v10 : BitVec 32) (k0_hw1 : k0_chk1 i v8 v10) (k0_t6 : Fin (k0_t6_loop i v8 v10).trips), ∀ (k0_h6 : k0_cond6 i v8 v10 = 1#1), ∀ a, (k0_off20 i v8 v10 k0_t6) a + S1x1024.size a ≤ S1040x1024.size a := fun i v8 v10 k0_hw1 k0_t6 k0_h6 => k0_hw1.2.2.2.2.2.2.2.2.2.2.2.2.2.2.2.2.2.2.2.2.2.2.2 k0_t6 k0_h6

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x8192x1024 : Shape := ⟨3, ![4, 8192, 1024]⟩
abbrev S4x8192 : Shape := ⟨2, ![4, 8192]⟩
abbrev S1x8192x1024 : Shape := ⟨3, ![1, 8192, 1024]⟩
abbrev S_ : Shape := ⟨0, ![]⟩
abbrev S8192x1024 : Shape := ⟨2, ![8192, 1024]⟩
abbrev S4x8192x1 : Shape := ⟨3, ![4, 8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i32⟩
  | .hbm, ⟨2, _⟩ => ⟨S1x8192x1024, .f32⟩
  | .hbm, ⟨3, _⟩ => ⟨S_, .i32⟩
  | .hbm, ⟨4, _⟩ => ⟨S4x8192, .i32⟩
  | .hbm, ⟨5, _⟩ => ⟨S4x8192, .i1⟩
  | .hbm, ⟨6, _⟩ => ⟨S4x8192, .i32⟩
  | .hbm, ⟨7, _⟩ => ⟨S_, .i32⟩
  | .hbm, ⟨8, _⟩ => ⟨S_, .i32⟩
  | .hbm, ⟨9, _⟩ => ⟨S4x8192, .i32⟩
  | .hbm, ⟨10, _⟩ => ⟨S8192x1024, .f32⟩
  | .hbm, ⟨11, _⟩ => ⟨S_, .i32⟩
  | .hbm, ⟨12, _⟩ => ⟨S4x8192, .i32⟩
  | .hbm, ⟨13, _⟩ => ⟨S4x8192, .i1⟩
  | .hbm, ⟨14, _⟩ => ⟨S_, .i32⟩
  | .hbm, ⟨15, _⟩ => ⟨S4x8192, .i32⟩
  | .hbm, ⟨16, _⟩ => ⟨S4x8192, .i32⟩
  | .hbm, ⟨17, _⟩ => ⟨S4x8192, .i32⟩
  | .hbm, ⟨18, _⟩ => ⟨S4x8192x1, .i32⟩
  | .hbm, ⟨19, _⟩ => ⟨S4x8192x1024, .f32⟩
  | .hbm, ⟨20, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Proof.Words0.lean ====
module

public import Idealize.ShloMosaic.Lib.Affine
public import Idealize.ShloMosaic.Lib.Affine.Words

@[expose] public section

set_option maxRecDepth 16384

/-! Closed forms of the kernel's integer chains, as functions of words. -/

namespace Cert.Words

open Idealize.ShloMosaic

/-- The remainder with the sign of the divisor, written out as the kernel computes it. -/
def modW (x d : BitVec 32) : BitVec 32 :=
  let e : BitVec 32 := Scalar.select (Scalar.cmpi .eq d 0#32) 1#32 d
  let r : BitVec 32 := Scalar.remsi x e
  Scalar.select
    (Scalar.andi (Scalar.xori (Scalar.cmpi .slt r 0#32) (Scalar.cmpi .slt e 0#32)) (Scalar.cmpi .ne r 0#32))
    (Scalar.addi r e) r

/-- The first row of the window fetched for a carry `w`. -/
def baseW (w : BitVec 32) : BitVec 32 :=
  let v : BitVec 32 := Scalar.minsi 7152#32 (Scalar.maxsi 0#32 w)
  Scalar.subi v (modW v 8#32)

/-- The number of eight-row pieces that reach the window's row `x`. -/
def nchW (x : BitVec 32) : BitVec 32 :=
  let v36 : BitVec 32 := Scalar.subi (Scalar.extui (Scalar.cmpi .sgt x 0#32)) (Scalar.extui (Scalar.cmpi .slt x 0#32))
  let v41 : BitVec 32 := Scalar.subi (Scalar.extui (Scalar.cmpi .sgt 8#32 0#32)) (Scalar.extui (Scalar.cmpi .slt 8#32 0#32))
  let v45 : BitVec 1 := Scalar.andi (Scalar.cmpi .ne v36 v41) (Scalar.cmpi .ne (Scalar.remsi x 8#32) 0#32)
  let v31 : BitVec 32 := Scalar.divsi x 8#32
  Scalar.addi (Scalar.select v45 (Scalar.subi v31 1#32) v31) 1#32

/-- The window row of the last separator count of the block. -/
def maxW (w n : BitVec 32) : BitVec 32 := Scalar.subi (Scalar.minsi (Scalar.addi w n) 8191#32) (baseW w)

/-- The window row of the carry. -/
def minW (w : BitVec 32) : BitVec 32 := Scalar.subi (Scalar.minsi 8191#32 (Scalar.maxsi 0#32 w)) (baseW w)

/-- The first row of the window, as a number. -/
def base (c : Nat) : Nat := min c 7152 / 8 * 8
/-- The window row of the block's last count, as a number. -/
def mx (c n : Nat) : Nat := min (c + n) 8191 - base c
/-- The window row of the carry, as a number. -/
def mo (c : Nat) : Nat := min c 8191 - base c

/-- The window starts no later than the count. -/
theorem base_le (c : Nat) : base c ≤ c := by unfold base; omega
/-- The window starts at row 7152 at the latest, so it fits the table. -/
theorem base_le' (c : Nat) : base c ≤ 7152 := by unfold base; omega
/-- The window starts at a multiple of 8. -/
theorem base_dvd (c : Nat) : 8 ∣ base c := ⟨min c 7152 / 8, by unfold base; omega⟩

/-- The parity of a small word. -/
theorem mod2 : ∀ a : Fin 64, modW (BitVec.ofNat 32 a.val) 2#32 = BitVec.ofNat 32 (a.val % 2) := by decide +kernel
/-- A small word modulo 8. -/
theorem mod8 : ∀ a : Fin 64, modW (BitVec.ofNat 32 a.val) 8#32 = BitVec.ofNat 32 (a.val % 8) := by decide +kernel
/-- The number of eight-row pieces, checked for every last row below 1100. -/
theorem nchW_all : ∀ e : Fin 1100, nchW (BitVec.ofNat 32 e.val) = BitVec.ofNat 32 (e.val / 8 + 1) := by decide +kernel

section
open Affine

/-- Sums of words are sums of numbers. -/
theorem w_add {a b : Nat} (h : a + b < 2 ^ 31) :
    Scalar.addi (BitVec.ofNat 32 a) (BitVec.ofNat 32 b) = BitVec.ofNat 32 (a + b) :=
  eq_of (addi (e := (a : Int) + b) (Affine.ofNat a ⟨rfl, by omega⟩) (Affine.ofNat b ⟨rfl, by omega⟩) ⟨rfl, by omega, by omega⟩) _ (by omega)
/-- Differences of words are differences of numbers. -/
theorem w_sub {a b : Nat} (hb : b ≤ a) (h : a < 2 ^ 31) :
    Scalar.subi (BitVec.ofNat 32 a) (BitVec.ofNat 32 b) = BitVec.ofNat 32 (a - b) :=
  eq_of (subi (e := (a : Int) - b) (Affine.ofNat a ⟨rfl, by omega⟩) (Affine.ofNat b ⟨rfl, by omega⟩) ⟨rfl, by omega, by omega⟩) _ (by omega)
/-- Products of words are products of numbers. -/
theorem w_mul {a b : Nat} (h : a < 2 ^ 31) (h' : b < 2 ^ 31) (h'' : a * b < 2 ^ 31) :
    Scalar.muli (BitVec.ofNat 32 a) (BitVec.ofNat 32 b) = BitVec.ofNat 32 (a * b) :=
  eq_of (muli (e := ((a * b : Nat) : Int)) (Affine.ofNat a ⟨rfl, h⟩) (Affine.ofNat b ⟨rfl, h'⟩)
    ⟨by push_cast; rfl, by omega, by omega⟩) _ rfl
/-- The smaller of two words. -/
theorem w_min {a b : Nat} (h : a < 2 ^ 31) (h' : b < 2 ^ 31) :
    Scalar.minsi (BitVec.ofNat 32 a) (BitVec.ofNat 32 b) = BitVec.ofNat 32 (min a b) :=
  eq_of (minsi (e := min (a : Int) b) (Affine.ofNat a ⟨rfl, h⟩) (Affine.ofNat b ⟨rfl, h'⟩) rfl) _ (by omega)
/-- A word is at least zero. -/
theorem w_max0 {a : Nat} (h : a < 2 ^ 31) : Scalar.maxsi 0#32 (BitVec.ofNat 32 a) = BitVec.ofNat 32 a :=
  eq_of (maxsi (e := max ((0 : Nat) : Int) a) (Affine.ofNat 0 ⟨rfl, by omega⟩) (Affine.ofNat a ⟨rfl, h⟩) rfl) _ (by omega)
/-- A word divided by one. -/
theorem w_div1 {a : Nat} (h : a < 2 ^ 31) : Scalar.divsi (BitVec.ofNat 32 a) 1#32 = BitVec.ofNat 32 a :=
  eq_of (divsi (e := (a : Int)) (Affine.ofNat a ⟨rfl, h⟩) (Affine.ofNat 1 ⟨rfl, by omega⟩) ⟨by simp, by omega, by omega⟩) _ rfl
/-- A loop's variable at trip `k`. -/
theorem w_iv {a k : Nat} (h : a + k < 2 ^ 31) : Scf.iv (BitVec.ofNat 32 a) 1#32 k = BitVec.ofNat 32 (a + k) :=
  eq_of (iv (e := ((a + k : Nat) : Int)) (Affine.ofNat a ⟨rfl, by omega⟩) (Affine.ofNat 1 ⟨rfl, by omega⟩) k
    ⟨by push_cast; omega, by omega, by omega⟩) _ rfl
/-- A loop by one from `a` to `b` makes `b - a` trips. -/
theorem w_trips {a b : Nat} (h : a < 2 ^ 31) (h' : b < 2 ^ 31) :
    Scf.trips (BitVec.ofNat 32 a) (BitVec.ofNat 32 b) 1#32 = b - a :=
  by
  by_cases hab : a ≤ b
  · exact trips_eq (Affine.ofNat a ⟨rfl, h⟩) (Affine.ofNat b ⟨rfl, h'⟩) (Affine.ofNat (e := 1) 1 ⟨rfl, by omega⟩) _
      ⟨by omega, by rw [Int.ediv_one]; omega⟩
  · have := trips_le (Affine.ofNat a ⟨rfl, h⟩) (Affine.ofNat b ⟨rfl, h'⟩) (Affine.ofNat (e := 1) 1 ⟨rfl, by omega⟩) 0
      ⟨by omega, by rw [Int.ediv_one]; omega⟩
    omega
/-- A loop by one is well formed. -/
theorem w_ok {a b : Nat} (h : a < 2 ^ 31) (h' : b < 2 ^ 31) : Scf.OK (BitVec.ofNat 32 a) (BitVec.ofNat 32 b) 1#32 :=
  ok (Affine.ofNat a ⟨rfl, h⟩) (Affine.ofNat b ⟨rfl, h'⟩) (Affine.ofNat (e := 1) 1 ⟨rfl, by omega⟩)
    ⟨by omega, by rw [Int.ediv_one]; omega⟩
/-- A word reads back as its number. -/
theorem w_toNat {a : Nat} (h : a < 2 ^ 32) : (BitVec.ofNat 32 a).toNat = a := by
  rw [BitVec.toNat_ofNat]; exact Nat.mod_eq_of_lt h

/-- A condition printed as `extui` of a comparison, then compared with zero, is the comparison. -/
theorem cond_iff (b : BitVec 1) : Scalar.cmpi .ne (Scalar.extui b : BitVec 32) 0#32 = 1#1 ↔ b = 1#1 := by
  revert b; decide
/-- The word comparison `>` compares the numbers. -/
theorem w_sgt {a b : Nat} (h : a < 2 ^ 31) (h' : b < 2 ^ 31) :
    Scalar.cmpi .sgt (BitVec.ofNat 32 a) (BitVec.ofNat 32 b) = 1#1 ↔ b < a := by
  constructor
  · intro hh
    by_contra hn
    exact sgt_fails (Affine.ofNat a ⟨rfl, h⟩) (Affine.ofNat b ⟨rfl, h'⟩) (by omega) hh
  · intro hh; exact sgt_holds (Affine.ofNat a ⟨rfl, h⟩) (Affine.ofNat b ⟨rfl, h'⟩) (by omega)
/-- The word comparison `<` compares the numbers. -/
theorem w_slt {a b : Nat} (h : a < 2 ^ 31) (h' : b < 2 ^ 31) :
    Scalar.cmpi .slt (BitVec.ofNat 32 a) (BitVec.ofNat 32 b) = 1#1 ↔ a < b := by
  constructor
  · intro hh
    by_contra hn
    exact slt_fails (Affine.ofNat a ⟨rfl, h⟩) (Affine.ofNat b ⟨rfl, h'⟩) (by omega) hh
  · intro hh; exact slt_holds (Affine.ofNat a ⟨rfl, h⟩) (Affine.ofNat b ⟨rfl, h'⟩) (by omega)
/-- The word comparison `=` compares the numbers. -/
theorem w_eq {a b : Nat} (h : a < 2 ^ 31) (h' : b < 2 ^ 31) :
    Scalar.cmpi .eq (BitVec.ofNat 32 a) (BitVec.ofNat 32 b) = 1#1 ↔ a = b := by
  constructor
  · intro hh
    by_contra hn
    exact eq_fails (Affine.ofNat a ⟨rfl, h⟩) (Affine.ofNat b ⟨rfl, h'⟩) (by omega) hh
  · intro hh; exact eq_holds (Affine.ofNat a ⟨rfl, h⟩) (Affine.ofNat b ⟨rfl, h'⟩) (by omega)
end

/-- The rest of `modW` once the remainder is known. -/
def modR (e r : BitVec 32) : BitVec 32 :=
  Scalar.select
    (Scalar.andi (Scalar.xori (Scalar.cmpi .slt r 0#32) (Scalar.cmpi .slt e 0#32)) (Scalar.cmpi .ne r 0#32))
    (Scalar.addi r e) r
/-- A remainder below 8 needs no correction of its sign. -/
theorem modR_all : ∀ r : Fin 8, modR 8#32 (BitVec.ofNat 32 r.val) = BitVec.ofNat 32 r.val := by decide +kernel
/-- A word modulo 8. -/
theorem modW8 {a : Nat} (h : a < 2 ^ 31) : modW (BitVec.ofNat 32 a) 8#32 = BitVec.ofNat 32 (a % 8) := by
  have h1 : Scalar.remsi (BitVec.ofNat 32 a) 8#32 = BitVec.ofNat 32 (a % 8) :=
    Affine.eq_of (Affine.remsi (e := (a : Int) % 8) (Affine.ofNat a ⟨rfl, h⟩) (Affine.ofNat (e := 8) 8 ⟨rfl, by omega⟩)
      ⟨rfl, by omega, by omega⟩) _ (by omega)
  have h2 : modW (BitVec.ofNat 32 a) 8#32 = modR 8#32 (Scalar.remsi (BitVec.ofNat 32 a) 8#32) := rfl
  rw [h2, h1]
  exact modR_all ⟨a % 8, by omega⟩
/-- The window's start, computed in words. -/
theorem baseW_eq {c : Nat} (h : c ≤ 8192) : baseW (BitVec.ofNat 32 c) = BitVec.ofNat 32 (base c) := by
  show Scalar.subi (Scalar.minsi 7152#32 (Scalar.maxsi 0#32 (BitVec.ofNat 32 c)))
    (modW (Scalar.minsi 7152#32 (Scalar.maxsi 0#32 (BitVec.ofNat 32 c))) 8#32) = _
  rw [w_max0 (by omega), w_min (by omega) (by omega), modW8 (by omega), w_sub (Nat.mod_le _ _) (by omega)]
  congr 1
  unfold base; omega
/-- The number of eight-row pieces up to window row `e`. -/
theorem nchW_eq {e : Nat} (h : e < 1100) : nchW (BitVec.ofNat 32 e) = BitVec.ofNat 32 (e / 8 + 1) := nchW_all ⟨e, h⟩
/-- The first row needed is in the window. -/
theorem mo_le {c : Nat} (h : c ≤ 8192) : mo c ≤ 1039 := by unfold mo base; omega
/-- The last row needed is in the window. -/
theorem mx_le {c n : Nat} (h : c ≤ 7168) (h' : n ≤ 1024) : mx c n ≤ 1039 := by unfold mx base; omega
/-- The first row needed comes before the last. -/
theorem mo_le_mx {c n : Nat} : mo c ≤ mx c n := by unfold mo mx; omega
/-- The last row needed, computed in words. -/
theorem maxW_eq {c n : Nat} (h : c ≤ 7168) (h' : n ≤ 1024) :
    maxW (BitVec.ofNat 32 c) (BitVec.ofNat 32 n) = BitVec.ofNat 32 (mx c n) := by
  unfold maxW
  rw [w_add (by omega), w_min (by omega) (by omega), baseW_eq (by omega), w_sub (by unfold base; omega) (by omega)]
  rfl
/-- The first row needed, computed in words. -/
theorem minW_eq {c : Nat} (h : c ≤ 7168) : minW (BitVec.ofNat 32 c) = BitVec.ofNat 32 (mo c) := by
  unfold minW
  rw [w_max0 (by omega), w_min (by omega) (by omega), baseW_eq (by omega), w_sub (by unfold base; omega) (by omega)]
  rw [Nat.min_comm]; rfl

/-- A choice whose condition holds. -/
theorem select_one {α : Type} {b : BitVec 1} (h : b = 1#1) (x y : α) : Scalar.select b x y = x := if_pos h
/-- A choice whose condition fails. -/
theorem select_not {α : Type} {b : BitVec 1} (h : ¬ b = 1#1) (x y : α) : Scalar.select b x y = y := if_neg h

end Cert.Words
-- ==== Proof.Lanes.lean ====
module

public import proofs.«01_k».proof.Proof.Words0
public import Idealize.ShloMosaic.Lib.ValueIdxCore
public import Idealize.ShloMosaic.Lib.WordSum
public import Mathlib.Data.Nat.Count
public import Idealize.ShloMosaic.Lib.Pipeline.Value

@[expose] public section

set_option maxRecDepth 16384

/-! Words laid along 1024 lanes: a sum of bits is a count, a minimum is a first position, and ten doubling shifts add up
to a running count. -/

namespace Cert.Words

open Idealize.ShloMosaic Idealize.ShloMosaic.ValueIdx

/-- A single bit, widened to a word. -/
def bit (b : Prop) [Decidable b] : BitVec 32 := BitVec.ofNat 32 (if b then 1 else 0)

/-- A bit as a number. -/
theorem bit_toNat (b : Prop) [Decidable b] : (bit b).toNat = if b then 1 else 0 := by
  unfold bit; split <;> rfl

/-- A truth value widened is a bit. -/
theorem bit_ofBool (b : Bool) : (BitVec.ofBool b).setWidth 32 = bit (b = true) := by
  cases b <;> rfl

/-- Equivalent propositions have the same bit. -/
theorem bit_congr {p q : Prop} [Decidable p] [Decidable q] (h : p ↔ q) : bit p = bit q := by
  unfold bit; simp only [h]

/-- The indices of one row of 1024 lanes, numbered. -/
def laneEquiv : (⟨3, ![1, 1, 1024]⟩ : Shape).Idx ≃ Fin 1024 where
  toFun i := i 2
  invFun j := ix3 0 0 j
  left_inv i := by
    funext a
    match a with
    | ⟨0, _⟩ => exact Subsingleton.elim (α := Fin 1) _ _
    | ⟨1, _⟩ => exact Subsingleton.elim (α := Fin 1) _ _
    | ⟨2, _⟩ => rfl
  right_inv j := rfl

/-- A reduction to one entry takes every index. -/
theorem drop_all {axes : List (Fin 3)} (h : (⟨3, ![1, 1, 1024]⟩ : Shape).Reduces axes ⟨1, ![1]⟩) (j : (⟨1, ![1]⟩ : Shape).Idx) :
    (Finset.univ.filter fun i => h.drop i = j) = Finset.univ := by
  refine Finset.filter_true_of_mem fun i _ => ?_
  funext a
  match a with
  | ⟨0, _⟩ => exact Subsingleton.elim (α := Fin 1) _ _

/-- The sum of the bits is the count. -/
theorem sum_count (q : ℕ → Prop) [DecidablePred q] (n : ℕ) : ∑ k : Fin n, (if q k.val then 1 else 0) = Nat.count q n := by
  rw [Fin.sum_univ_eq_sum_range (fun k => if q k then 1 else 0) n, Finset.sum_boole, Nat.count_eq_card_filter_range]
  rfl

/-- The sum of 1024 bits is how many of them are set. -/
theorem lane_sum (src : IVec ⟨3, ![1, 1, 1024]⟩ 32) (q : ℕ → Prop) [DecidablePred q]
    (hq : ∀ k : Fin 1024, src (ix3 0 0 k) = bit (q k.val)) {axes : List (Fin 3)}
    (h : (⟨3, ![1, 1, 1024]⟩ : Shape).Reduces axes ⟨1, ![1]⟩) (hacc : (0#32 : BitVec 32) = IKind.add.neutral)
    (j : (⟨1, ![1]⟩ : Shape).Idx) : multiReductionI .add axes ⟨1, ![1]⟩ src 0#32 h hacc j = BitVec.ofNat 32 (Nat.count q 1024) := by
  have hs : ∑ i ∈ Finset.univ.filter (fun i => h.drop i = j), (src i).toNat = Nat.count q 1024 := by
    rw [drop_all h j, ← sum_count q 1024]
    refine Fintype.sum_equiv laneEquiv _ _ fun i => ?_
    rw [← laneEquiv.symm_apply_apply i, show laneEquiv.symm (laneEquiv i) = ix3 0 0 (laneEquiv i) from rfl, hq, bit_toNat]
    rfl
  have hle : Nat.count q 1024 ≤ 1024 := Nat.count_le q
  apply BitVec.eq_of_toNat_eq
  rw [WordSum.toNat_multiReductionI_add src h hacc j (by omega), hs, BitVec.toNat_ofNat]
  omega

/-- The smaller of two words is the smaller number. -/
theorem minsi_ofNat {a b : ℕ} (ha : a < 2 ^ 31) (hb : b < 2 ^ 31) :
    IntOp.minsi (BitVec.ofNat 32 a) (BitVec.ofNat 32 b) = BitVec.ofNat 32 (min a b) := by
  unfold IntOp.minsi
  have e : (BitVec.ofNat 32 a).slt (BitVec.ofNat 32 b) = decide (a < b) := by
    unfold BitVec.slt
    rw [BitVec.toInt_ofNat', BitVec.toInt_ofNat']
    congr 1
    simp only [Int.bmod_def, eq_iff_iff]
    omega
  rw [e]
  by_cases h : a < b
  · simp only [h, decide_true, if_true]; rw [Nat.min_eq_left (by omega)]
  · simp only [h, decide_false]; rw [if_neg (by decide), Nat.min_eq_right (by omega)]

/-- The least of many words is the least number. -/
theorem fold_minsi {ι : Type} [DecidableEq ι] (S : Finset ι) (f : ι → ℕ) (A : ℕ) (hA : A < 2 ^ 31) (hf : ∀ i, f i < 2 ^ 31) :
    S.fold IntOp.minsi (BitVec.ofNat 32 A) (fun i => BitVec.ofNat 32 (f i)) = BitVec.ofNat 32 (S.fold min A f) ∧ S.fold min A f < 2 ^ 31 := by
  induction S using Finset.induction_on with
  | empty => exact ⟨by simp, by simpa using hA⟩
  | insert a S ha ih =>
    rw [Finset.fold_insert ha, Finset.fold_insert ha, ih.1, minsi_ofNat (hf a) ih.2]
    exact ⟨rfl, lt_of_le_of_lt (min_le_left _ _) (hf a)⟩

/-- The minimum over 1024 lanes, where a lane holds its number if its bit is set and 1024 otherwise, lies above `s` exactly
    when no lane up to `s` is set. -/
theorem lane_min (src : IVec ⟨3, ![1, 1, 1024]⟩ 32) (q : ℕ → Prop) [DecidablePred q]
    (hq : ∀ k : Fin 1024, src (ix3 0 0 k) = BitVec.ofNat 32 (if q k.val then k.val else 1024)) {axes : List (Fin 3)}
    (h : (⟨3, ![1, 1, 1024]⟩ : Shape).Reduces axes ⟨1, ![1]⟩) (hacc : (2147483647#32 : BitVec 32) = IKind.minsi.neutral)
    (j : (⟨1, ![1]⟩ : Shape).Idx) : ∃ m, multiReductionI .minsi axes ⟨1, ![1]⟩ src 2147483647#32 h hacc j = BitVec.ofNat 32 m ∧ m < 2 ^ 31
      ∧ ∀ s : ℕ, s < 1024 → (s < m ↔ Nat.count q (s + 1) = 0) := by
  have e : src = fun i => BitVec.ofNat 32 ((fun i => if q (i 2).val then (i 2).val else 1024 : (⟨3, ![1, 1, 1024]⟩ : Shape).Idx → ℕ) i) := by
    funext i
    rw [← laneEquiv.symm_apply_apply i, show laneEquiv.symm (laneEquiv i) = ix3 0 0 (laneEquiv i) from rfl, hq]
  have hb : ∀ i : (⟨3, ![1, 1, 1024]⟩ : Shape).Idx, (if q (i 2).val then (i 2).val else 1024) < 2 ^ 31 := fun i => by
    have : (i 2).val < 1024 := (i 2).isLt
    split <;> omega
  have hF := fold_minsi (Finset.univ : Finset (⟨3, ![1, 1, 1024]⟩ : Shape).Idx) (fun i => if q (i 2).val then (i 2).val else 1024)
    2147483647 (by omega) hb
  refine ⟨_, ?_, hF.2, fun s hs => ?_⟩
  · rw [multiReductionI_eq_fold, drop_all h j, e]
    exact hF.1
  · rw [Finset.lt_fold_min]
    constructor
    · rintro ⟨-, hall⟩
      refine Nat.count_of_forall_not ?_
      intro k hk hqk
      have := hall (ix3 0 0 ⟨k, by omega⟩) (Finset.mem_univ _)
      simp only [hqk, if_true] at this
      omega
    · intro hc
      refine ⟨by omega, fun i _ => ?_⟩
      have hi : (i 2).val < 1024 := (i 2).isLt
      split
      · rename_i hqi
        by_contra hlt
        have h1 := Nat.count_monotone q (show (i 2).val + 1 ≤ s + 1 by omega)
        rw [Nat.count_succ, if_pos hqi] at h1
        omega
      · omega

/-- How many of the `k` lanes ending at `j` are set. -/
def last (q : ℕ → Prop) [DecidablePred q] (k j : ℕ) : ℕ := Nat.count q (j + 1) - Nat.count q (j + 1 - k)

/-- A stretch of one lane holds its own bit. -/
theorem last_one (q : ℕ → Prop) [DecidablePred q] (j : ℕ) : last q 1 j = if q j then 1 else 0 := by
  unfold last
  rw [Nat.count_succ]
  simp only [Nat.add_sub_cancel]
  omega

/-- A stretch of all lanes is the count so far. -/
theorem last_all (q : ℕ → Prop) [DecidablePred q] {j : ℕ} (hj : j < 1024) : last q 1024 j = Nat.count q (j + 1) := by
  unfold last
  rw [show j + 1 - 1024 = 0 by omega, Nat.count_zero]
  rfl

/-- Two neighbouring stretches make one of twice the length. -/
theorem last_double (q : ℕ → Prop) [DecidablePred q] (k j : ℕ) : last q k j + (if k ≤ j then last q k (j - k) else 0) = last q (k + k) j := by
  unfold last
  have h1 := Nat.count_monotone q (show j + 1 - k ≤ j + 1 by omega)
  split
  · have h2 := Nat.count_monotone q (show j + 1 - (k + k) ≤ j + 1 - k by omega)
    rw [show j - k + 1 = j + 1 - k by omega, show j + 1 - k - k = j + 1 - (k + k) by omega]
    omega
  · by_cases h3 : k = j + 1
    · subst h3
      simp
    · rw [show j + 1 - k = 0 by omega, show j + 1 - (k + k) = 0 by omega]; rfl

/-- One doubling step of the running count: shift by `k` lanes, zeros coming in, and add. -/
theorem lane_step (q : ℕ → Prop) [DecidablePred q] (k r : ℕ) (u : IVec ⟨2, ![1, 1024]⟩ 32)
    (hu : ∀ j : Fin 1024, u (ix2 0 j) = BitVec.ofNat 32 (last q k j.val)) (hk : k + r = 1024)
    (hs : Shape.Slices (⟨2, ![1, 1024]⟩ : Shape) ![0, 0] ⟨2, ![1, r]⟩)
    (hc : Shape.Concatenates [(⟨2, ![1, k]⟩ : Shape), ⟨2, ![1, r]⟩] ⟨2, ![1, 1024]⟩ 1) (j : Fin 1024) :
    addi u (concatenate ⟨2, ![1, 1024]⟩ 1 [⟨⟨2, ![1, k]⟩, broadcast ⟨2, ![1, k]⟩ 0#32⟩, ⟨⟨2, ![1, r]⟩, extractStridedSlice ⟨2, ![1, r]⟩ ![0, 0] u hs⟩] hc) (ix2 0 j)
      = BitVec.ofNat 32 (last q (k + k) j.val) := by
  show u (ix2 0 j) + _ = _
  rw [← last_double, hu]
  by_cases h : k ≤ j.val
  · rw [if_pos h]
    rw [concatenate_pair_apply_right 1 _ _ hc (ix2 0 j) rfl rfl (ix2 0 ⟨j.val - k, by have := j.isLt; omega⟩)]
    · rw [extractStridedSlice_apply _ _ _ _ (ix2 0 ⟨j.val - k, by omega⟩), hu, ← BitVec.ofNat_add]
      intro a
      match a with
      | ⟨0, _⟩ => rfl
      | ⟨1, _⟩ => exact (Nat.zero_add _).symm
    · intro b hb
      match b with
      | ⟨0, _⟩ => rfl
      | ⟨1, _⟩ => exact absurd rfl hb
    · show j.val - k + k = j.val
      omega
  · rw [if_neg h]
    rw [concatenate_pair_apply_left 1 _ _ hc (ix2 0 j) rfl (ix2 0 ⟨j.val, by omega⟩)]
    · exact BitVec.add_zero _
    · intro b
      match b with
      | ⟨0, _⟩ => rfl
      | ⟨1, _⟩ => rfl

end Cert.Words

end
-- ==== Proof.KernelIdeal.Words.lean ====
module

public import proofs.«01_k».proof.KernelIdeal
public import proofs.«01_k».proof.Proof.Words0

@[expose] public section

set_option maxRecDepth 16384

/-! The kernel's offsets, conditions and loop bounds in closed form, and the side condition it assumes. -/

namespace Cert.KernelIdeal

open Idealize.ShloMosaic Cert.Words

/-- The carry in force at point `i`: the stored word, or zero at the first point. -/
def carryW (i : grid0.Coords) (v10 : BitVec 32) : BitVec 32 :=
  Scalar.select (Scalar.cmpi .eq (BitVec.ofNat 32 (i 0).val) 0#32) 0#32 v10

/-- The carry the point leaves: zero when the next point starts a row, the carry and the block's count otherwise. -/
def nextW (i : grid0.Coords) (v8 v10 : BitVec 32) : BitVec 32 :=
  Scalar.select (Scalar.cmpi .eq (modW (Scalar.addi (BitVec.ofNat 32 (i 0).val) 1#32) 8#32) 0#32) 0#32
    (Scalar.addi (carryW i v10) v8)

/-- The same as a number. -/
def nextC (k c n : Nat) : Nat := if (k + 1) % 8 = 0 then 0 else c + n

/-- What the words read at point `i` are: the carry `c` and the block's separator count `n`. -/
structure Known (i : grid0.Coords) (v8 v10 : BitVec 32) (c n : Nat) : Prop where
  hc : carryW i v10 = BitVec.ofNat 32 c
  hn : v8 = BitVec.ofNat 32 n
  lc : c ≤ 1024 * ((i 0).val % 8)
  ln : n ≤ 1024

section
variable {i : grid0.Coords} {v8 v10 : BitVec 32} {c n : Nat}

/-- There are 32 grid points. -/
theorem i_lt (i : grid0.Coords) : (i 0).val < 32 := (i 0).isLt

/-- The carry at a point is at most 7168. -/
theorem Known.lc' (h : Known i v8 v10 c n) : c ≤ 7168 := by have := h.lc; omega

/-- The prefetch slot of a point. -/
theorem par_eq (i : grid0.Coords) : modW (BitVec.ofNat 32 (i 0).val) 2#32 = BitVec.ofNat 32 ((i 0).val % 2) :=
  mod2 ⟨(i 0).val, by have := i_lt i; omega⟩
/-- The prefetch slot of the next point. -/
theorem par_succ_eq (i : grid0.Coords) :
    modW (Scalar.addi (BitVec.ofNat 32 (i 0).val) 1#32) 2#32 = BitVec.ofNat 32 (((i 0).val + 1) % 2) := by
  have := i_lt i
  rw [show (1#32 : BitVec 32) = BitVec.ofNat 32 1 from rfl, w_add (by omega)]
  exact mod2 ⟨(i 0).val + 1, by omega⟩
/-- The next point's place in its token row. -/
theorem next8_eq (i : grid0.Coords) :
    modW (Scalar.addi (BitVec.ofNat 32 (i 0).val) 1#32) 8#32 = BitVec.ofNat 32 (((i 0).val + 1) % 8) := by
  have := i_lt i
  rw [show (1#32 : BitVec 32) = BitVec.ofNat 32 1 from rfl, w_add (by omega)]
  exact mod8 ⟨(i 0).val + 1, by omega⟩

/-- The next point's carry, computed in words. -/
theorem nextW_eq (h : Known i v8 v10 c n) : nextW i v8 v10 = BitVec.ofNat 32 (nextC (i 0).val c n) := by
  have := h.lc'; have := h.ln
  unfold nextW nextC
  rw [next8_eq, h.hc, h.hn, w_add (by omega)]
  have hz := w_eq (a := ((i 0).val + 1) % 8) (b := 0) (by omega) (by omega)
  by_cases h0 : ((i 0).val + 1) % 8 = 0
  · rw [if_pos h0, select_one (hz.mpr h0)]
  · rw [if_neg h0, select_not (fun hh => h0 (hz.mp hh))]

/-- The next point's carry is at most the positions before it. -/
theorem nextC_le (h : Known i v8 v10 c n) : nextC (i 0).val c n ≤ 1024 * (((i 0).val + 1) % 8) := by
  have := h.lc; have := h.ln
  unfold nextC
  split <;> omega

/-! ### The double buffer's parity -/

theorem off2_eq (i : grid0.Coords) : k0_off2 i = ![((i 0).val + 1) % 2] := by
  have h : k0_off2 i = ![(modW (Scalar.addi (BitVec.ofNat 32 (i 0).val) 1#32) 2#32).toNat] := rfl
  rw [h, par_succ_eq, w_toNat (by omega)]
/-- The next slot's rows in the prefetch buffer. -/
theorem off3_eq (i : grid0.Coords) : k0_off3 i = ![((i 0).val + 1) % 2 * 8, 0] := by
  have h : k0_off3 i = ![(Scalar.muli (modW (Scalar.addi (BitVec.ofNat 32 (i 0).val) 1#32) 2#32) (BitVec.ofNat 32 8)).toNat, 0] := rfl
  rw [h, par_succ_eq, w_mul (by omega) (by omega) (by omega), w_toNat (by omega)]
/-- This slot's semaphore, at the start of the wait. -/
theorem off5_eq (i : grid0.Coords) : k0_off5 i = ![(i 0).val % 2] := by
  have h : k0_off5 i = ![(modW (BitVec.ofNat 32 (i 0).val) 2#32).toNat] := rfl
  rw [h, par_eq, w_toNat (by omega)]
/-- This slot's semaphore, in the loop. -/
theorem off9_eq (i : grid0.Coords) : k0_off9 i = ![(i 0).val % 2] := off5_eq i
/-- This slot's rows, as the wait names them. -/
theorem off6_eq (i : grid0.Coords) : k0_off6 i = ![(i 0).val % 2 * 8, 0] := by
  have h : k0_off6 i = ![(Scalar.muli (modW (BitVec.ofNat 32 (i 0).val) 2#32) (BitVec.ofNat 32 8)).toNat, 0] := rfl
  rw [h, par_eq, w_mul (by omega) (by omega) (by omega), w_toNat (by omega)]
/-- This slot's rows, as they are read. -/
theorem off8_eq (i : grid0.Coords) : k0_off8 i = ![(i 0).val % 2 * 8, 0] := off6_eq i

/-! ### Conditions -/

theorem cond1_iff (i : grid0.Coords) : k0_cond1 i = 1#1 ↔ (i 0).val = 0 := by
  have := i_lt i
  exact (cond_iff _).trans (w_eq (b := 0) (by omega) (by omega))
/-- A next point exists. -/
theorem cond2_iff (i : grid0.Coords) : k0_cond2 i = 1#1 ↔ (i 0).val + 1 < 32 := by
  have := i_lt i
  refine (cond_iff _).trans ?_
  show Scalar.cmpi .slt (Scalar.addi (BitVec.ofNat 32 (i 0).val) (BitVec.ofNat 32 1)) (BitVec.ofNat 32 32) = 1#1 ↔ _
  rw [w_add (by omega)]
  exact w_slt (by omega) (by omega)

/-- The window's start at a point. -/
theorem v24_eq (h : Known i v8 v10 c n) : baseW (carryW i v10) = BitVec.ofNat 32 (base c) := by
  have := h.lc'; rw [h.hc, baseW_eq (by omega)]
/-- The last window row needed at a point. -/
theorem v27_eq (h : Known i v8 v10 c n) : maxW (carryW i v10) v8 = BitVec.ofNat 32 (mx c n) := by
  rw [h.hc, h.hn, maxW_eq h.lc' h.ln]
/-- The first window row needed at a point. -/
theorem v30_eq (h : Known i v8 v10 c n) : minW (carryW i v10) = BitVec.ofNat 32 (mo c) := by
  rw [h.hc, minW_eq h.lc']
/-- The eight-row pieces needed at a point. -/
theorem v48_eq (h : Known i v8 v10 c n) : nchW (maxW (carryW i v10) v8) = BitVec.ofNat 32 (mx c n / 8 + 1) := by
  have := mx_le h.lc' h.ln
  rw [v27_eq h, nchW_eq (by omega)]
/-- How many rows past the first are needed. -/
theorem v49_eq (h : Known i v8 v10 c n) :
    Scalar.subi (maxW (carryW i v10) v8) (minW (carryW i v10)) = BitVec.ofNat 32 (mx c n - mo c) := by
  have := mx_le h.lc' h.ln
  rw [v27_eq h, v30_eq h, w_sub mo_le_mx (by omega)]

/-- More than one piece is needed. -/
theorem cond3_iff (h : Known i v8 v10 c n) : k0_cond3 i v8 v10 = 1#1 ↔ 0 < mx c n / 8 := by
  have := mx_le h.lc' h.ln
  refine (cond_iff _).trans ?_
  show Scalar.cmpi .sgt (nchW (maxW (carryW i v10) v8)) (BitVec.ofNat 32 1) = 1#1 ↔ _
  rw [v48_eq h, w_sgt (by omega) (by omega)]
  omega
/-- One row is needed. -/
theorem cond4_iff (h : Known i v8 v10 c n) : k0_cond4 i v8 v10 = 1#1 ↔ mx c n - mo c = 0 := by
  have := mx_le h.lc' h.ln
  refine (cond_iff _).trans ?_
  show Scalar.cmpi .eq (Scalar.subi (maxW (carryW i v10) v8) (minW (carryW i v10))) (BitVec.ofNat 32 0) = 1#1 ↔ _
  rw [v49_eq h, w_eq (by omega) (by omega)]
/-- Two rows are needed. -/
theorem cond5_iff (h : Known i v8 v10 c n) : k0_cond5 i v8 v10 = 1#1 ↔ mx c n - mo c = 1 := by
  have := mx_le h.lc' h.ln
  refine (cond_iff _).trans ?_
  show Scalar.cmpi .eq (Scalar.subi (maxW (carryW i v10) v8) (minW (carryW i v10))) (BitVec.ofNat 32 1) = 1#1 ↔ _
  rw [v49_eq h, w_eq (by omega) (by omega)]
/-- More than two rows are needed. -/
theorem cond6_iff (h : Known i v8 v10 c n) : k0_cond6 i v8 v10 = 1#1 ↔ 1 < mx c n - mo c := by
  have := mx_le h.lc' h.ln
  refine (cond_iff _).trans ?_
  show Scalar.cmpi .sgt (Scalar.subi (maxW (carryW i v10) v8) (minW (carryW i v10))) (BitVec.ofNat 32 1) = 1#1 ↔ _
  rw [v49_eq h, w_sgt (by omega) (by omega)]

/-! ### Loops -/

theorem t1_loop_eq (h : Known i v8 v10 c n) :
    k0_t1_loop i v8 v10 = ⟨BitVec.ofNat 32 1, BitVec.ofNat 32 (1 + mx c n / 8), 1#32⟩ := by
  have := mx_le h.lc' h.ln
  have e : k0_t1_loop i v8 v10 = ⟨BitVec.ofNat 32 1, Scalar.addi (BitVec.ofNat 32 1) (Scalar.muli (Scalar.divsi
    (Scalar.subi (nchW (maxW (carryW i v10) v8)) (BitVec.ofNat 32 1)) 1#32) (BitVec.ofNat 32 1)), 1#32⟩ := rfl
  rw [e, v48_eq h, w_sub (by omega) (by omega), w_div1 (by omega), w_mul (by omega) (by omega) (by omega),
    w_add (by omega)]
  simp only [Nat.add_sub_cancel, Nat.mul_one]
/-- The remainder of the copy loop is empty. -/
theorem t2_loop_eq (h : Known i v8 v10 c n) :
    k0_t2_loop i v8 v10 = ⟨BitVec.ofNat 32 (1 + mx c n / 8), BitVec.ofNat 32 (1 + mx c n / 8), 1#32⟩ := by
  have := mx_le h.lc' h.ln
  have e : k0_t2_loop i v8 v10 = ⟨(k0_t1_loop i v8 v10).ub, Scalar.addi (BitVec.ofNat 32 1)
    (Scalar.subi (nchW (maxW (carryW i v10) v8)) (BitVec.ofNat 32 1)), 1#32⟩ := rfl
  rw [e, t1_loop_eq h, v48_eq h, w_sub (by omega) (by omega), w_add (by omega)]
  simp only [Nat.add_sub_cancel]
/-- The bounds loop runs once per separator. -/
theorem t3_loop_eq (hn : v8 = BitVec.ofNat 32 n) (h : n ≤ 1024) :
    k0_t3_loop v8 = ⟨BitVec.ofNat 32 0, BitVec.ofNat 32 n, 1#32⟩ := by
  have e : k0_t3_loop v8 = ⟨BitVec.ofNat 32 0, Scalar.addi (BitVec.ofNat 32 0) (Scalar.muli (Scalar.divsi
    (Scalar.subi v8 (BitVec.ofNat 32 0)) 1#32) (BitVec.ofNat 32 1)), 1#32⟩ := rfl
  rw [e, hn, w_sub (by omega) (by omega), w_div1 (by omega), w_mul (by omega) (by omega) (by omega), w_add (by omega)]
  simp only [Nat.sub_zero, Nat.zero_add, Nat.mul_one]
/-- The remainder of the bounds loop is empty. -/
theorem t4_loop_eq (hn : v8 = BitVec.ofNat 32 n) (h : n ≤ 1024) :
    k0_t4_loop v8 = ⟨BitVec.ofNat 32 n, BitVec.ofNat 32 n, 1#32⟩ := by
  have e : k0_t4_loop v8 = ⟨(k0_t3_loop v8).ub, Scalar.addi (BitVec.ofNat 32 0)
    (Scalar.subi v8 (BitVec.ofNat 32 0)), 1#32⟩ := rfl
  rw [e, t3_loop_eq hn h, hn, w_sub (by omega) (by omega), w_add (by omega)]
  simp only [Nat.sub_zero, Nat.zero_add]
/-- The blending loop runs over the rows past the first. -/
theorem t5_loop_eq (h : Known i v8 v10 c n) :
    k0_t5_loop i v8 v10 = ⟨BitVec.ofNat 32 (mo c + 1), BitVec.ofNat 32 (mx c n + 1), 1#32⟩ := by
  have := mx_le h.lc' h.ln; have := mo_le_mx (c := c) (n := n)
  have e : k0_t5_loop i v8 v10 = ⟨Scalar.addi (minW (carryW i v10)) (BitVec.ofNat 32 1),
    Scalar.addi (Scalar.addi (minW (carryW i v10)) (BitVec.ofNat 32 1)) (Scalar.muli (Scalar.divsi
      (Scalar.subi (Scalar.addi (maxW (carryW i v10) v8) (BitVec.ofNat 32 1))
        (Scalar.addi (minW (carryW i v10)) (BitVec.ofNat 32 1))) 1#32) (BitVec.ofNat 32 1)), 1#32⟩ := rfl
  rw [e, v27_eq h, v30_eq h, w_add (by omega), w_add (by omega), w_sub (by omega) (by omega), w_div1 (by omega),
    w_mul (by omega) (by omega) (by omega), w_add (by omega)]
  congr 2; omega
/-- The remainder of the blending loop is empty. -/
theorem t6_loop_eq (h : Known i v8 v10 c n) :
    k0_t6_loop i v8 v10 = ⟨BitVec.ofNat 32 (mx c n + 1), BitVec.ofNat 32 (mx c n + 1), 1#32⟩ := by
  have := mx_le h.lc' h.ln; have := mo_le_mx (c := c) (n := n)
  have e : k0_t6_loop i v8 v10 = ⟨(k0_t5_loop i v8 v10).ub,
    Scalar.addi (Scalar.addi (minW (carryW i v10)) (BitVec.ofNat 32 1))
      (Scalar.subi (Scalar.addi (maxW (carryW i v10) v8) (BitVec.ofNat 32 1))
        (Scalar.addi (minW (carryW i v10)) (BitVec.ofNat 32 1))), 1#32⟩ := rfl
  rw [e, t5_loop_eq h, v27_eq h, v30_eq h, w_add (by omega), w_add (by omega), w_sub (by omega) (by omega), w_add (by omega)]
  congr 2; omega

/-- The copy loop's trips. -/
theorem t1_trips (h : Known i v8 v10 c n) : (k0_t1_loop i v8 v10).trips = mx c n / 8 := by
  have := mx_le h.lc' h.ln
  show Scf.trips (k0_t1_loop i v8 v10).lb (k0_t1_loop i v8 v10).ub (k0_t1_loop i v8 v10).st = _
  rw [t1_loop_eq h]; show Scf.trips _ _ _ = _; rw [w_trips (by omega) (by omega)]; omega
/-- The remainder of the copy loop makes no trip. -/
theorem t2_trips (h : Known i v8 v10 c n) : (k0_t2_loop i v8 v10).trips = 0 := by
  have := mx_le h.lc' h.ln
  show Scf.trips (k0_t2_loop i v8 v10).lb (k0_t2_loop i v8 v10).ub (k0_t2_loop i v8 v10).st = _
  rw [t2_loop_eq h]; show Scf.trips _ _ _ = _; rw [w_trips (by omega) (by omega)]; omega
/-- The bounds loop's trips. -/
theorem t3_trips (hn : v8 = BitVec.ofNat 32 n) (h : n ≤ 1024) : (k0_t3_loop v8).trips = n := by
  show Scf.trips (k0_t3_loop v8).lb (k0_t3_loop v8).ub (k0_t3_loop v8).st = _
  rw [t3_loop_eq hn h]; show Scf.trips _ _ _ = _; rw [w_trips (by omega) (by omega)]; omega
/-- The remainder of the bounds loop makes no trip. -/
theorem t4_trips (hn : v8 = BitVec.ofNat 32 n) (h : n ≤ 1024) : (k0_t4_loop v8).trips = 0 := by
  show Scf.trips (k0_t4_loop v8).lb (k0_t4_loop v8).ub (k0_t4_loop v8).st = _
  rw [t4_loop_eq hn h]; show Scf.trips _ _ _ = _; rw [w_trips (by omega) (by omega)]; omega
/-- The blending loop's trips. -/
theorem t5_trips (h : Known i v8 v10 c n) : (k0_t5_loop i v8 v10).trips = mx c n - mo c := by
  have := mx_le h.lc' h.ln; have := mo_le_mx (c := c) (n := n)
  show Scf.trips (k0_t5_loop i v8 v10).lb (k0_t5_loop i v8 v10).ub (k0_t5_loop i v8 v10).st = _
  rw [t5_loop_eq h]; show Scf.trips _ _ _ = _; rw [w_trips (by omega) (by omega)]; omega
/-- The remainder of the blending loop makes no trip. -/
theorem t6_trips (h : Known i v8 v10 c n) : (k0_t6_loop i v8 v10).trips = 0 := by
  have := mx_le h.lc' h.ln
  show Scf.trips (k0_t6_loop i v8 v10).lb (k0_t6_loop i v8 v10).ub (k0_t6_loop i v8 v10).st = _
  rw [t6_loop_eq h]; show Scf.trips _ _ _ = _; rw [w_trips (by omega) (by omega)]; omega

/-! ### Offsets of the copies and of the window's rows -/

theorem off7_eq (h : Known i v8 v10 c n) : k0_off7 i v10 = ![base c, 0] := by
  have := base_le' c
  have e : k0_off7 i v10 = ![(baseW (carryW i v10)).toNat, 0] := rfl
  rw [e, v24_eq h, w_toNat (by omega)]
/-- The table rows of the first copy. -/
theorem off1_eq (h : Known i v8 v10 c n) : k0_off1 i v10 = ![base c, 0] := off7_eq h
/-- The table rows of the next point's copy. -/
theorem off4_eq (h : Known i v8 v10 c n) : k0_off4 i v8 v10 = ![base (nextC (i 0).val c n), 0] := by
  have := base_le' (nextC (i 0).val c n)
  have := nextC_le h
  have e : k0_off4 i v8 v10 = ![(baseW (nextW i v8 v10)).toNat, 0] := rfl
  rw [e, nextW_eq h, baseW_eq (by omega), w_toNat (by omega)]
/-- Where a later piece lands in the window. -/
theorem off10_eq (h : Known i v8 v10 c n) (t : Fin (k0_t1_loop i v8 v10).trips) : k0_off10 i v8 v10 t = ![8 * (1 + t.val), 0] := by
  have := mx_le h.lc' h.ln
  have ht : t.val < mx c n / 8 := by have := t.isLt; have := t1_trips h; omega
  have e : k0_off10 i v8 v10 t = ![(Scalar.muli (BitVec.ofNat 32 8) (Scf.iv (BitVec.ofNat 32 1) 1#32 t.val)).toNat, 0] := rfl
  rw [e, w_iv (by omega), w_mul (by omega) (by omega) (by omega), w_toNat (by omega)]
/-- The table rows of a later piece. -/
theorem off11_eq (h : Known i v8 v10 c n) (t : Fin (k0_t1_loop i v8 v10).trips) :
    k0_off11 i v8 v10 t = ![base c + 8 * (1 + t.val), 0] := by
  have := mx_le h.lc' h.ln; have := base_le' c
  have ht : t.val < mx c n / 8 := by have := t.isLt; have := t1_trips h; omega
  have e : k0_off11 i v8 v10 t = ![(Scalar.addi (baseW (carryW i v10)) (Scalar.muli (BitVec.ofNat 32 8) (Scf.iv (BitVec.ofNat 32 1) 1#32 t.val))).toNat, 0] := rfl
  rw [e, v24_eq h, w_iv (by omega), w_mul (by omega) (by omega) (by omega), w_add (by omega), w_toNat (by omega)]
/-- The window row read where one row is needed. -/
theorem off15_eq (h : Known i v8 v10 c n) : k0_off15 i v10 = ![mo c, 0] := by
  have := mo_le (c := c) (by have := h.lc'; omega)
  have e : k0_off15 i v10 = ![(minW (carryW i v10)).toNat, 0] := rfl
  rw [e, v30_eq h, w_toNat (by omega)]
/-- The first window row read where two are needed. -/
theorem off16_eq (h : Known i v8 v10 c n) : k0_off16 i v10 = ![mo c, 0] := off15_eq h
/-- The first window row read where more are needed. -/
theorem off18_eq (h : Known i v8 v10 c n) : k0_off18 i v10 = ![mo c, 0] := off15_eq h
/-- The second window row read where two are needed. -/
theorem off17_eq (h : Known i v8 v10 c n) : k0_off17 i v10 = ![mo c + 1, 0] := by
  have := mo_le (c := c) (by have := h.lc'; omega)
  have e : k0_off17 i v10 = ![(Scalar.addi (minW (carryW i v10)) (BitVec.ofNat 32 1)).toNat, 0] := rfl
  rw [e, v30_eq h, w_add (by omega), w_toNat (by omega)]
/-- The blending loop's row at a trip. -/
theorem iv5_eq (h : Known i v8 v10 c n) (t : Fin (k0_t5_loop i v8 v10).trips) :
    Scf.iv (Scalar.addi (minW (carryW i v10)) 1#32) 1#32 t.val = BitVec.ofNat 32 (mo c + 1 + t.val) := by
  have := mx_le h.lc' h.ln
  have ht : t.val < mx c n - mo c := by have := t.isLt; have := t5_trips h; omega
  rw [v30_eq h, show (1#32 : BitVec 32) = BitVec.ofNat 32 1 from rfl, w_add (by omega), w_iv (by omega)]
/-- The window row read at a trip of the blending loop. -/
theorem off19_eq (h : Known i v8 v10 c n) (t : Fin (k0_t5_loop i v8 v10).trips) : k0_off19 i v8 v10 t = ![mo c + 1 + t.val, 0] := by
  have := mx_le h.lc' h.ln
  have ht : t.val < mx c n - mo c := by have := t.isLt; have := t5_trips h; omega
  have e : k0_off19 i v8 v10 t = ![(Scf.iv (Scalar.addi (minW (carryW i v10)) 1#32) 1#32 t.val).toNat, 0] := rfl
  rw [e, iv5_eq h, w_toNat (by omega)]

/-! ### The side condition -/

theorem inb2 {a s b : Nat} {f g h : Nat} (h0 : a + s ≤ b) (h1 : f + g ≤ h) :
    ∀ j : Fin 2, (![a, f] : Fin 2 → Nat) j + (![s, g] : Fin 2 → Nat) j ≤ (![b, h] : Fin 2 → Nat) j := by
  intro j; match j with
  | 0 => exact h0
  | 1 => exact h1

/-- A word is a multiple of 8 where its number is. -/
theorem dvd_word {a : Nat} (h : a < 2 ^ 32) (hd : 8 ∣ a) : 8 ∣ (BitVec.ofNat 32 a).toNat := by rw [w_toNat h]; exact hd

/-- The side condition the kernel assumes of the words it reads holds of a known carry and count. -/
theorem chk1_of (h : Known i v8 v10 c n) : k0_chk1 i v8 v10 := by
  have lc := h.lc'; have ln := h.ln
  have hmx := mx_le h.lc' h.ln; have hmm := mo_le_mx (c := c) (n := n)
  have hb := base_le' c
  have hb2 := base_le' (nextC (i 0).val c n)
  have hnx := nextC_le h
  have d0 : 8 ∣ (baseW (carryW i v10)).toNat := by rw [v24_eq h]; exact dvd_word (by omega) (base_dvd c)
  have hbm : base c + mx c n ≤ 8191 := by unfold mx base; omega
  have z2 : ∀ {P : Fin (k0_t2_loop i v8 v10).trips → Prop}, ∀ t, P t := fun t =>
    absurd t.isLt (by have := t2_trips h; omega)
  have z6 : ∀ {P : Fin (k0_t6_loop i v8 v10).trips → Prop}, ∀ t, P t := fun t =>
    absurd t.isLt (by have := t6_trips h; omega)
  refine ⟨fun _ => d0, fun _ => ?_, fun _ => ?_, fun _ => ?_, d0, ?_, fun _ => ?_, fun t _ => ?_, fun t _ => ?_, fun t _ => ?_,
    fun _ => ?_, z2, z2, z2, fun _ => ?_, fun _ => ?_, fun h5 => ?_, fun _ => ?_, fun _ => ?_, fun _ => ?_, fun _ => ?_,
    fun t _ => ?_, fun _ => ?_, z6⟩
  · rw [off1_eq h]; exact inb2 (by omega) (by omega)
  · show 8 ∣ (baseW (nextW i v8 v10)).toNat
    rw [nextW_eq h, baseW_eq (by omega)]; exact dvd_word (by omega) (base_dvd _)
  · rw [off4_eq h]; exact inb2 (by omega) (by omega)
  · rw [off7_eq h]; exact inb2 (by omega) (by omega)
  · rw [t1_loop_eq h]; exact w_ok (by omega) (by omega)
  · have ht : t.val < mx c n / 8 := by have := t.isLt; have := t1_trips h; omega
    show 8 ∣ (Scalar.addi (baseW (carryW i v10)) (Scalar.muli (BitVec.ofNat 32 8) (Scf.iv (BitVec.ofNat 32 1) 1#32 t.val))).toNat
    rw [v24_eq h, w_iv (by omega), w_mul (by omega) (by omega) (by omega), w_add (by omega)]
    exact dvd_word (by omega) ((base_dvd c).add ⟨_, rfl⟩)
  · have ht : t.val < mx c n / 8 := by have := t.isLt; have := t1_trips h; omega
    rw [off10_eq h t]; exact inb2 (by omega) (by omega)
  · have ht : t.val < mx c n / 8 := by have := t.isLt; have := t1_trips h; omega
    have hb8 : base c % 8 = 0 := by unfold base; omega
    rw [off11_eq h t]; exact inb2 (by omega) (by omega)
  · rw [t2_loop_eq h]; exact w_ok (by omega) (by omega)
  · rw [off15_eq h]; exact inb2 (by omega) (by omega)
  · rw [off16_eq h]; exact inb2 (by omega) (by omega)
  · have := (cond5_iff h).mp h5
    rw [off17_eq h]; exact inb2 (by omega) (by omega)
  · rw [t3_loop_eq h.hn h.ln]; exact w_ok (by omega) (by omega)
  · rw [t4_loop_eq h.hn h.ln]; exact w_ok (by omega) (by omega)
  · rw [off18_eq h]; exact inb2 (by omega) (by omega)
  · rw [t5_loop_eq h]; exact w_ok (by omega) (by omega)
  · have ht : t.val < mx c n - mo c := by have := t.isLt; have := t5_trips h; omega
    rw [off19_eq h t]; exact inb2 (by omega) (by omega)
  · rw [t6_loop_eq h]; exact w_ok (by omega) (by omega)

end

end Cert.KernelIdeal
-- ==== Proof.KernelIdeal.Dma.lean ====
module

public import proofs.«01_k».proof.Proof.Gen.KernelIdeal.Frame
public import proofs.«01_k».proof.Proof.Gen.KernelIdeal.Skeleton
public import proofs.«01_k».proof.Proof.KernelIdeal.Words

@[expose] public section

set_option maxRecDepth 16384

/-! The kernel's copies: the two-slot prefetch of the first eight rows of a window, and the copies of its other rows. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Words

variable {F : FTy → Type} [FloatOps F]

local notation "𝕄" => MT nD τ sig Unit (Elt F) ℕ (Pipeline.UD sig nD τ) ℕ

/-! ### The operands -/

/-- The position table, left in main memory. -/
abbrev peM : Memref sig .tc .hbm S8192x1024 .f32 := Memref.whole main_v2
/-- The two prefetch slots of eight rows. -/
abbrev bufM : Memref sig .tc .vmem S16x1024 .f32 := Memref.whole cc0_scratch0
/-- The window of table rows a point reads. -/
abbrev winM : Memref sig .tc .vmem S1040x1024 .f32 := Memref.whole cc0_scratch1
/-- The carried count. -/
abbrev wordM : Memref sig .tc .smem S1 .i32 := Memref.whole cc0_scratch3

abbrev peRows (o : Fin 2 → ℕ) (h : ∀ a, o a + S8x1024.size a ≤ S8192x1024.size a) : Memref sig .tc .hbm S8x1024 .f32 :=
  peM.slice (Rect.unit (s := S8192x1024) o S8x1024.size h) (fun _ => rfl)
abbrev slotOf (o : Fin 2 → ℕ) (h : ∀ a, o a + S8x1024.size a ≤ S16x1024.size a) : Memref sig .tc .vmem S8x1024 .f32 :=
  bufM.slice (Rect.unit (s := S16x1024) o S8x1024.size h) (fun _ => rfl)
abbrev winRows (o : Fin 2 → ℕ) (h : ∀ a, o a + S8x1024.size a ≤ S1040x1024.size a) : Memref sig .tc .vmem S8x1024 .f32 :=
  winM.slice (Rect.unit (s := S1040x1024) o S8x1024.size h) (fun _ => rfl)
abbrev cellAt (o : Fin 1 → ℕ) (h : ∀ a, o a + S1.size a ≤ S2.size a) : DmaSem sig :=
  ((cc0_scratch2.slice (Rect.unit (s := S2) o S1.size h)).squeeze S_ squeezes_S1_S_).sem

/-- Eight table rows are in bounds. -/
theorem pe_inb {b : ℕ} (h : b + 8 ≤ 8192) : ∀ a, (![b, 0] : Fin 2 → ℕ) a + S8x1024.size a ≤ S8192x1024.size a :=
  inb2 h (Nat.le_refl 1024)
/-- The first eight rows from the window's start are in bounds. -/
theorem base_inb (c : ℕ) : ∀ a, (![base c, 0] : Fin 2 → ℕ) a + S8x1024.size a ≤ S8192x1024.size a :=
  pe_inb (by have := base_le' c; omega)
/-- A slot is in the prefetch buffer. -/
theorem slot_inb (s : Fin 2) : ∀ a, (![s.val * 8, 0] : Fin 2 → ℕ) a + S8x1024.size a ≤ S16x1024.size a :=
  inb2 (by omega) (Nat.le_refl 1024)
/-- A slot has a semaphore. -/
theorem cell_inb (s : Fin 2) : ∀ a, (![s.val] : Fin 1 → ℕ) a + S1.size a ≤ S2.size a := fun a => by
  have ha : a = 0 := Fin.eq_zero a
  subst ha
  show s.val + 1 ≤ 2
  omega

/-- Prefetch slot `s`. -/
abbrev slot (s : Fin 2) : Memref sig .tc .vmem S8x1024 .f32 := slotOf ![s.val * 8, 0] (slot_inb s)
/-- Its semaphore cell. -/
abbrev cell (s : Fin 2) : DmaSem sig := cellAt ![s.val] (cell_inb s)
/-- The first eight rows of the window for carry `n`. -/
abbrev head (n : ℕ) : Memref sig .tc .hbm S8x1024 .f32 := peRows ![base n, 0] (base_inb n)

/-- The table is read through three shares: one for the copies into the window, one for each prefetch slot. -/
def qW : PosShare TreeShare := fullShare.left
def qS (s : Fin 2) : PosShare TreeShare := if s.val = 0 then fullShare.right.left else fullShare.right.right

section
variable (c : Dev nD) (X : Buf (Elt F) (peM.view.loc (c : Thread nD τ)))

/-- The table whole at share `q`. -/
abbrev peP (q : PosShare TreeShare) : sProp 𝕄 := peM.view.loc (c : Thread nD τ) ↦{q} X

/-- Slot `s` held at contents `f`. -/
abbrev slotP (s : Fin 2) (f : Buf (Elt F) ((slot s).view.loc (c : Thread nD τ))) : sProp 𝕄 :=
  (slot s).view.loc (c : Thread nD τ) ↦[(slot s).view.set]{fullShare} f

/-- Slot `s` with nothing in flight. -/
def idle (s : Fin 2) : sProp 𝕄 :=
  iprop(semVal ((c : Thread nD τ), SemLoc.dma (cell s)) 0 ∗ (∃ f, slotP c s f) ∗ peP c X (qS s))

/-- Slot `s` once the copy of the rows for carry `n` has landed. -/
def landed (s : Fin 2) (n : ℕ) : sProp 𝕄 :=
  iprop(semVal ((c : Thread nD τ), SemLoc.dma (cell s)) 0
    ∗ (∃ f, ⌜(slot s).view.read (Elt F) f = (head n).view.read (Elt F) X⌝ ∗ slotP c s f) ∗ peP c X (qS s))

/-- Slot `s` while the rows for carry `n` are being copied into it. -/
def flying (s : Fin 2) (n : ℕ) : sProp 𝕄 :=
  iprop((∃ f, Transfers.Flight countersEmb (c : Thread nD τ) (SemLoc.dma (cell s)) () (slot s).view.dmaCredit
      iprop(((slot s).view.loc (c : Thread nD τ) ↦[(slot s).view.set]{fullShare}
          (slot s).view.write (Elt F) f (ReadAs.same.apply ((head n).view.read (Elt F) X)) Finset.univ)
        ∗ ((head n).view.loc (c : Thread nD τ) ↦[(head n).view.set]{qS s} X)))
    ∗ ((head n).view.loc (c : Thread nD τ) ↦[Finset.univ \ (head n).view.set]{qS s} X))

/-- A slot whose copy has landed is idle. -/
theorem landed_idle (s : Fin 2) (n : ℕ) : landed c X s n ⊢ idle c X s := by
  unfold landed idle
  iintro ⟨Hv, ⟨%f, -, Hf⟩, Hp⟩
  isplitl [Hv]; · iexact Hv
  isplitl [Hf]; · iexists f; iexact Hf
  iexact Hp

/-- The enqueue of a prefetch into an idle slot. -/
theorem wp_start (s : Fin 2) (n : ℕ) {od os : Fin 2 → ℕ} {om : Fin 1 → ℕ} (hd : ∀ a, od a + S8x1024.size a ≤ S16x1024.size a)
    (hs : ∀ a, os a + S8x1024.size a ≤ S8192x1024.size a) (hm : ∀ a, om a + S1.size a ≤ S2.size a)
    (ed : od = ![s.val * 8, 0]) (es : os = ![base n, 0]) (em : om = ![s.val])
    {h1 : (peRows os hs).view.WordExact} {h2 : (slotOf od hd).view.WordExact}
    {h3 : DmaTarget.Typed (nD := nD) (τ := τ) (p := Proc.tc) .hbm (SemLoc.dma (cellAt om hm)) (.here (slotOf od hd))} {Q : PUnit → sProp 𝕄} :
    idle c X s ⊢ iprop((flying c X s n -∗ Q ⟨⟩) -∗ wp frame (wpE (defs₀ (F := F)) Variants.none (c : Thread nD τ) none) Set.univ
      (Prog.lift (.enqueueDma (peRows os hs) (.here (slotOf od hd)) (.dma (cellAt om hm)) h1 h2 h3)) Q) := by
  subst ed es em
  unfold idle flying
  iintro ⟨Hv, ⟨%f, Hf⟩, Hp⟩ HQ
  ihave Hp' := (pointsTo_split_subset (I := (head n).view.set) (Finset.subset_univ _)).1 $$ Hp
  icases Hp' with ⟨Hr, Hc⟩
  iapply (Transfers.wp_dmaLocal countersEmb Variants.none (c : Thread nD τ) none (src := head n) (dst := slot s)
    (k := .ret) (Q := Q) (q := qS s) (fs := X) (Sd := (slot s).view.set) (fd := f)
    () (slot s).view.dmaCredit rfl (View.dmaCredit_pos _ (by decide)) subset_rfl) $$ [Hr Hf Hv]
  · isplitl [Hr]; · iexact Hr
    isplitl [Hf]; · iexact Hf
    iexact Hv
  iintro Hfl
  rw [wp_ret]
  imodintro
  iapply HQ
  isplitl [Hfl]
  · iexists f; iexact Hfl
  iexact Hc

/-- The wait for a prefetch. -/
theorem wp_finish (s : Fin 2) (n : ℕ) {od os : Fin 2 → ℕ} {om : Fin 1 → ℕ} (hd : ∀ a, od a + S8x1024.size a ≤ S16x1024.size a)
    (hs : ∀ a, os a + S8x1024.size a ≤ S8192x1024.size a) (hm : ∀ a, om a + S1.size a ≤ S2.size a)
    (ed : od = ![s.val * 8, 0]) (em : om = ![s.val])
    {h1 : (peRows os hs).view.WordExact} {h2 : (slotOf od hd).view.WordExact} {W : Waits sig Unit} {Q : PUnit → sProp 𝕄} :
    iprop(flying c X s n ∗ owes (c : Thread nD τ) 0 W) ⊢ iprop((iprop(landed c X s n ∗ (∃ W', owes (c : Thread nD τ) 0 W')) -∗ Q ⟨⟩)
      -∗ wp frame (wpE (defs₀ (F := F)) Variants.none (c : Thread nD τ) none) Set.univ
      (Prog.lift (.waitDma2 (cellAt om hm) (peRows os hs) (slotOf od hd) h1 h2)) Q) := by
  subst ed em
  unfold landed flying
  iintro ⟨⟨⟨%f, Hfl⟩, Hc⟩, HW⟩ HQ
  iapply (Transfers.wp_waitLocal countersEmb Variants.none (c : Thread nD τ) none (sem := cell s) (srcw := peRows os hs) (dstw := slot s)
    (k := .ret) (Q := Q) () rfl) $$ [Hfl HW]
  · isplitl [Hfl]; · iexact Hfl
    iexact HW
  iintro ⟨⟨Hf, Hr⟩, Hv, HW⟩
  rw [wp_ret]
  imodintro
  iapply HQ
  isplitr [HW]
  swap; · iexists _; iexact HW
  isplitl [Hv]; · iexact Hv
  isplitl [Hf]
  · iexists _
    isplitr
    swap; · iexact Hf
    ipureintro
    exact View.read_write_univ _ _
  iapply (pointsTo_split_subset (I := (head n).view.set) (Finset.subset_univ _)).2
  isplitl [Hr]; · iexact Hr
  iexact Hc

/-- A copy of eight rows into the window, enqueued and awaited on the slot's own cell. -/
theorem wp_fetch (s : Fin 2) {od os : Fin 2 → ℕ} {om : Fin 1 → ℕ} (hd : ∀ a, od a + S8x1024.size a ≤ S1040x1024.size a)
    (hs : ∀ a, os a + S8x1024.size a ≤ S8192x1024.size a) (hm : ∀ a, om a + S1.size a ≤ S2.size a)
    (em : om = ![s.val])
    {h1 : (peRows os hs).view.WordExact} {h2 : (winRows od hd).view.WordExact}
    {h1' : (peRows os hs).view.WordExact} {h2' : (winRows od hd).view.WordExact}
    {h3 : DmaTarget.Typed (nD := nD) (τ := τ) (p := Proc.tc) .hbm (SemLoc.dma (cellAt om hm)) (.here (winRows od hd))} {W : Waits sig Unit}
    {g : Buf (Elt F) (winM.view.loc (c : Thread nD τ))} {α : Type} {r : α} {Q : α → sProp 𝕄} :
    iprop(semVal ((c : Thread nD τ), SemLoc.dma (cell s)) 0 ∗ (winM.view.loc (c : Thread nD τ) ↦{fullShare} g) ∗ peP c X qW ∗ owes (c : Thread nD τ) 0 W)
      ⊢ iprop((iprop(semVal ((c : Thread nD τ), SemLoc.dma (cell s)) 0
          ∗ (winM.view.loc (c : Thread nD τ) ↦{fullShare} (winRows od hd).view.write (Elt F) g ((peRows os hs).view.read (Elt F) X) Finset.univ)
          ∗ peP c X qW ∗ (∃ W', owes (c : Thread nD τ) 0 W')) -∗ Q r)
      -∗ wp frame (wpE (defs₀ (F := F)) Variants.none (c : Thread nD τ) none) Set.univ
      (do
        Prog.lift (.enqueueDma (peRows os hs) (.here (winRows od hd)) (.dma (cellAt om hm)) h1 h2 h3)
        Prog.lift (.waitDma2 (cellAt om hm) (peRows os hs) (winRows od hd) h1' h2')
        pure r) Q) := by
  subst em
  simp only [wp_bind]
  iintro ⟨Hv, Hg, Hp, HW⟩ HQ
  ihave Hp' := (pointsTo_split_subset (ℓ := peM.view.loc (c : Thread nD τ)) (I := (peRows os hs).view.set) (Finset.subset_univ _)).1 $$ Hp
  icases Hp' with ⟨Hr, Hc⟩
  iapply (Transfers.wp_dmaLocal countersEmb Variants.none (c : Thread nD τ) none (src := peRows os hs) (dst := winRows od hd)
    (k := .ret) (q := qW) (fs := X) (Sd := Finset.univ) (fd := g)
    () (winRows od hd).view.dmaCredit rfl (View.dmaCredit_pos _ (by decide)) (Finset.subset_univ _)) $$ [Hr Hg Hv]
  · isplitl [Hr]; · iexact Hr
    isplitl [Hg]; · iexact Hg
    iexact Hv
  iintro Hfl
  rw [wp_ret]
  imodintro
  iapply (Transfers.wp_waitLocal countersEmb Variants.none (c : Thread nD τ) none (sem := cell s) (srcw := peRows os hs) (dstw := winRows od hd)
    (k := .ret) () rfl) $$ [Hfl HW]
  · isplitl [Hfl]; · iexact Hfl
    iexact HW
  iintro ⟨⟨Hf, Hr⟩, Hv, HW⟩
  rw [wp_ret]
  imodintro
  ihave Hp := (pointsTo_split_subset (ℓ := peM.view.loc (c : Thread nD τ)) (I := (peRows os hs).view.set) (Finset.subset_univ _)).2 $$ [Hr Hc]
  · isplitl [Hr]; · iexact Hr
    iexact Hc
  rw [wp_pure]
  imodintro
  iapply HQ
  isplitl [Hv]; · iexact Hv
  isplitl [Hf]; · iexact Hf
  isplitl [Hp]; · iexact Hp
  iexists _; iexact HW

end

end Cert.KernelIdeal.Hand

end
-- ==== Proof.KernelIdeal.Pay.lean ====
module

public import proofs.«01_k».proof.Proof.Gen.KernelIdeal.Skeleton
public import proofs.«01_k».proof.Proof.KernelIdeal.Words
public import proofs.«01_k».proof.Proof.Lanes

@[expose] public section

set_option maxRecDepth 16384

/-! What the body's payloads compute, element by element. -/

noncomputable section

namespace Cert.KernelIdeal.Hand

open Idealize.ShloMosaic Idealize.ShloMosaic.ValueIdx
open Cert.KernelIdeal.Gen Cert.Words

variable {F : FTy → Type} [FloatOps F]

/-- Lane `j` of a token block holds the separator. -/
def isSep (v : S1x1x1024.Idx → BitVec 32) (j : ℕ) : Prop := ∃ h : j < 1024, v (ix3 0 0 ⟨j, h⟩) = 102#32
instance (v : S1x1x1024.Idx → BitVec 32) : DecidablePred (isSep v) := fun j => by unfold isSep; infer_instance

/-- How many of the first `m` lanes of a token block hold the separator. -/
def cnt (v : S1x1x1024.Idx → BitVec 32) (m : ℕ) : ℕ := Nat.count (isSep v) m

/-- At most as many separators as lanes. -/
theorem cnt_le (v : S1x1x1024.Idx → BitVec 32) (m : ℕ) : cnt v m ≤ m := Nat.count_le _
/-- More lanes hold no fewer separators. -/
theorem cnt_mono (v : S1x1x1024.Idx → BitVec 32) {a b : ℕ} (h : a ≤ b) : cnt v a ≤ cnt v b := Nat.count_monotone _ h

/-- A lane's mark. -/
theorem pay12_apply (v : S1x1x1024.Idx → BitVec 32) (j : Fin 1024) : k0_pay12 (F := F) v (ix2 0 j) = bit (isSep v j.val) := by
  have e : shapeCast S1x1024 v shapeCasts_S1x1x1024_S1x1024 (ix2 0 j) = v (ix3 0 0 j) :=
    shapeCast_apply _ _ _ _ (by simp [Shape.rowMajor_val_three, Shape.rowMajor_val_two])
  show (BitVec.ofBool (shapeCast S1x1024 v shapeCasts_S1x1x1024_S1x1024 (ix2 0 j) == 102#32)).setWidth 32 = _
  rw [e, bit_ofBool]
  refine bit_congr ?_
  unfold isSep
  simp

/-- A row of lanes viewed with two unit axes. -/
theorem cast_row {α : Type} (u : S1x1024.Idx → α) (k : Fin 1024) : shapeCast S1x1x1024 u shapeCasts_S1x1024_S1x1x1024 (ix3 0 0 k) = u (ix2 0 k) :=
  shapeCast_apply _ _ _ _ (by simp [Shape.rowMajor_val_three, Shape.rowMajor_val_two])

/-- The one entry read out. -/
theorem extract_one {α : Type} (u : S1.Idx → α) : extractAt ![0, 0, 0] (shapeCast S1x1x1 u shapeCasts_S1_S1x1x1) inpos_S1x1x1_p0_0_0 = u (ix1 0) :=
  shapeCast_apply _ _ _ _ (by
    have h1 : (S1.rowMajor (ix1 0)).val < 1 := (S1.rowMajor (ix1 0)).isLt
    have h2 := (S1x1x1.rowMajor fun a => ⟨(![0, 0, 0] : Fin 3 → ℕ) a, inpos_S1x1x1_p0_0_0 a⟩).isLt
    have h3 : S1x1x1.numel = 1 := by decide
    omega)

/-- The block's count of separators. -/
theorem pay13_eq (v : S1x1x1024.Idx → BitVec 32) :
    extractAt ![0, 0, 0] (k0_pay13 (F := F) v) inpos_S1x1x1_p0_0_0 = BitVec.ofNat 32 (cnt v 1024) := by
  show extractAt ![0, 0, 0] (shapeCast S1x1x1 (multiReductionI .add [1, 2] S1 (shapeCast S1x1x1024 (k0_pay12 (F := F) v) shapeCasts_S1x1024_S1x1x1024) 0#32 reduces_S1x1x1024_S1 rfl) shapeCasts_S1_S1x1x1) inpos_S1x1x1_p0_0_0 = _
  rw [extract_one]
  exact lane_sum _ (isSep v) (fun k => by rw [cast_row, pay12_apply]) _ _ _

/-- The ten shifts leave the running count of separators. -/
theorem pay10_apply (v : S1x1x1024.Idx → BitVec 32) (j : Fin 1024) :
    k0_pay10 (k0_pay12 (F := F) v) (ix2 0 j) = BitVec.ofNat 32 (cnt v (j.val + 1)) := by
  have h := fun j => lane_step (isSep v) 512 512 _ (lane_step (isSep v) 256 768 _ (lane_step (isSep v) 128 896 _ (lane_step (isSep v) 64 960 _
    (lane_step (isSep v) 32 992 _ (lane_step (isSep v) 16 1008 _ (lane_step (isSep v) 8 1016 _ (lane_step (isSep v) 4 1020 _
    (lane_step (isSep v) 2 1022 _ (lane_step (isSep v) 1 1023 (k0_pay12 (F := F) v) (fun j => by rw [pay12_apply, last_one]; rfl)
      rfl slices_S1x1024_o0_0_S1x1023 concatenates_S1x1_S1x1023_S1x1024_d1)
      rfl slices_S1x1024_o0_0_S1x1022 concatenates_S1x2_S1x1022_S1x1024_d1)
      rfl slices_S1x1024_o0_0_S1x1020 concatenates_S1x4_S1x1020_S1x1024_d1)
      rfl slices_S1x1024_o0_0_S1x1016 concatenates_S1x8_S1x1016_S1x1024_d1)
      rfl slices_S1x1024_o0_0_S1x1008 concatenates_S1x16_S1x1008_S1x1024_d1)
      rfl slices_S1x1024_o0_0_S1x992 concatenates_S1x32_S1x992_S1x1024_d1)
      rfl slices_S1x1024_o0_0_S1x960 concatenates_S1x64_S1x960_S1x1024_d1)
      rfl slices_S1x1024_o0_0_S1x896 concatenates_S1x128_S1x896_S1x1024_d1)
      rfl slices_S1x1024_o0_0_S1x768 concatenates_S1x256_S1x768_S1x1024_d1)
      rfl slices_S1x1024_o0_0_S1x512 concatenates_S1x512_S1x512_S1x1024_d1 j
  have e : last (isSep v) (512 + 512) j.val = cnt v (j.val + 1) := last_all _ j.isLt
  rw [← e]
  exact h j

/-- The lanes whose running count is at most `k` come before the first row whose running count exceeds `k`. -/
theorem count_low (v : S1x1x1024.Idx → BitVec 32) (k : ℕ) {s : ℕ} (hs : s < 1024) :
    Nat.count (fun j => cnt v (j + 1) ≤ k) 1024 ≤ s ↔ k < cnt v (s + 1) := by
  constructor
  · intro h
    by_contra hk
    have h1 : Nat.count (fun j => cnt v (j + 1) ≤ k) (s + 1) = s + 1 := by
      rw [Nat.count_iff_forall]
      intro j hj
      exact le_trans (cnt_mono v (by omega)) (Nat.not_lt.1 hk)
    have h2 := Nat.count_monotone (fun j => cnt v (j + 1) ≤ k) (show s + 1 ≤ 1024 by omega)
    omega
  · intro h
    have h1 : Nat.count (fun j => cnt v (j + 1) ≤ k) 1024 = Nat.count (fun j => cnt v (j + 1) ≤ k) s := by
      obtain ⟨d, hd⟩ := Nat.exists_eq_add_of_le (show s ≤ 1024 by omega)
      rw [hd, Nat.count_add, Nat.count_of_forall_not (p := fun t => cnt v (s + t + 1) ≤ k), Nat.add_zero]
      intro t _ ht
      have := cnt_mono v (show s + 1 ≤ s + t + 1 by omega)
      omega
    rw [h1]
    exact Nat.count_le _

/-- The word comparison `≤` compares the numbers. -/
theorem sle_nat {a b : ℕ} (ha : a < 2 ^ 31) (hb : b < 2 ^ 31) : (BitVec.ofNat 32 a).sle (BitVec.ofNat 32 b) = decide (a ≤ b) := by
  unfold BitVec.sle
  rw [BitVec.toInt_ofNat', BitVec.toInt_ofNat']
  congr 1
  simp only [Int.bmod_def, eq_iff_iff]
  omega

/-- One trip of the bounds loop adds one to every row past the lanes whose running count is at most `t`. -/
theorem pay4_apply (v : S1x1x1024.Idx → BitVec 32) (v8 : BitVec 32) (u : IVec S1x1024 32) (w : IVec S1024x1 32)
    (hu : ∀ j : Fin 1024, u (ix2 0 j) = BitVec.ofNat 32 (cnt v (j.val + 1)))
    (hw : ∀ s : Fin 1024, w (ix2 s 0) = BitVec.ofNat 32 s.val) (t : Fin (k0_t3_loop v8).trips) (ht : t.val ≤ 1024) (acc : IVec S1024x1 32)
    (s : Fin 1024) (a : ℕ) (ha : acc (ix2 s 0) = BitVec.ofNat 32 a) :
    k0_pay4 v8 u w 0#32 1#32 t acc (ix2 s 0) = BitVec.ofNat 32 (a + if t.val < cnt v (s.val + 1) then 1 else 0) := by
  have hiv : Scf.iv 0#32 1#32 t.val = BitVec.ofNat 32 t.val := by
    have := w_iv (a := 0) (k := t.val) (by omega)
    rwa [Nat.zero_add] at this
  have hsum : extractAt ![0, 0, 0] (shapeCast S1x1x1 (multiReductionI .add [1, 2] S1 (shapeCast S1x1x1024
      (extui 32 (cmpi .sle u (broadcast S1x1024 (Scf.iv 0#32 1#32 t.val))) natLt_1_32 : IVec S1x1024 32) shapeCasts_S1x1024_S1x1x1024) 0#32 reduces_S1x1x1024_S1 rfl) shapeCasts_S1_S1x1x1) inpos_S1x1x1_p0_0_0
      = BitVec.ofNat 32 (Nat.count (fun j => cnt v (j + 1) ≤ t.val) 1024) := by
    rw [extract_one]
    refine lane_sum _ _ (fun k => ?_) _ _ _
    rw [cast_row]
    show (BitVec.ofBool ((u (ix2 0 k)).sle (Scf.iv 0#32 1#32 t.val))).setWidth 32 = _
    have h1 := cnt_le v (k.val + 1)
    have h2 := k.isLt
    rw [hu, hiv, sle_nat (by omega) (by omega), bit_ofBool]
    exact bit_congr (by simp)
  unfold k0_pay4
  dsimp only
  rw [hsum]
  show acc (ix2 s 0) + (BitVec.ofBool (BitVec.sle (BitVec.ofNat 32 (Nat.count (fun j => cnt v (j + 1) ≤ t.val) 1024)) (w (ix2 s 0)))).setWidth 32 = _
  have hc : Nat.count (fun j => cnt v (j + 1) ≤ t.val) 1024 ≤ 1024 := Nat.count_le _
  have h2 := s.isLt
  rw [ha, hw, sle_nat (by omega) (by omega), bit_ofBool, bit_congr (q := t.val < cnt v (s.val + 1)), bit, ← BitVec.ofNat_add]
  simp only [decide_eq_true_eq]
  exact count_low v _ h2

/-- The input block without its unit axis. -/
theorem pay1_apply (x : Vec F S1x1024x1024 .f32) (s l : Fin 1024) : k0_pay1 x (ix2 s l) = x (ix3 0 s l) :=
  shapeCast_apply _ _ _ _ (by simp [Shape.rowMajor_val_three, Shape.rowMajor_val_two])

/-- A stored block, read back under its unit axis. -/
theorem cast_blk {α : Type} (u : S1024x1024.Idx → α) (s l : Fin 1024) :
    shapeCast S1x1024x1024 u shapeCasts_S1024x1024_S1x1024x1024 (ix3 0 s l) = u (ix2 s l) :=
  shapeCast_apply _ _ _ _ (by simp [Shape.rowMajor_val_three, Shape.rowMajor_val_two])

/-- A row spread over all rows. -/
theorem bcast_row {α : Type} (u : S1x1024.Idx → α) (s l : Fin 1024) : broadcastTo S1024x1024 u broadcasts_S1x1024_S1024x1024 (ix2 s l) = u (ix2 0 l) :=
  congrArg u (funext fun a => match a with | ⟨0, _⟩ => rfl | ⟨1, _⟩ => rfl)

/-- A column spread over all columns. -/
theorem bcast_col {α : Type} (u : S1024x1.Idx → α) (s l : Fin 1024) : broadcastTo S1024x1024 u broadcasts_S1024x1_S1024x1024 (ix2 s l) = u (ix2 s 0) :=
  congrArg u (funext fun a => match a with | ⟨0, _⟩ => rfl | ⟨1, _⟩ => rfl)

/-- A sum, entry by entry. -/
theorem addf_apply {s : Shape} (x y : FVec F s .f32) (i : s.Idx) : addf x y i = FloatOps.addf (x i) (y i) := rfl
/-- A choice, entry by entry. -/
theorem select_apply {s : Shape} {α : Type} (c : IVec s 1) (x y : s.Idx → α) (i : s.Idx) : select c x y i = if c i = 1 then x i else y i := rfl

/-- The block written where one row is needed. -/
theorem pay2_apply (x : Vec F S1x1024x1024 .f32) (r : Vec F S1x1024 .f32) (s l : Fin 1024) :
    k0_pay2 x r (ix3 0 s l) = FloatOps.addf (x (ix3 0 s l)) (r (ix2 0 l)) := by
  unfold k0_pay2
  rw [cast_blk]
  show FloatOps.addf (k0_pay1 x (ix2 s l)) (broadcastTo S1024x1024 r broadcasts_S1x1024_S1024x1024 (ix2 s l)) = _
  rw [pay1_apply, bcast_row]

/-- The block that the blending starts from. -/
theorem pay7_apply (x : Vec F S1x1024x1024 .f32) (r : Vec F S1x1024 .f32) (s l : Fin 1024) :
    k0_pay7 x r (ix3 0 s l) = FloatOps.addf (x (ix3 0 s l)) (r (ix2 0 l)) := pay2_apply x r s l

/-- Lane numbers where the separator is, 1024 elsewhere. -/
def firsts (u : IVec S1x1024 32) : IVec S1x1024 32 :=
  select (cmpi .sgt u (broadcast S1x1024 0#32)) (iota .tc S1x1024 32 [1] iota_S1x1024_d1_w32) (broadcast S1x1024 1024#32)

/-- A lane's own number where it holds a separator, else 1024. -/
theorem firsts_apply (v : S1x1x1024.Idx → BitVec 32) (k : Fin 1024) :
    firsts (k0_pay12 (F := F) v) (ix2 0 k) = BitVec.ofNat 32 (if isSep v k.val then k.val else 1024) := by
  unfold firsts
  rw [select_apply]
  have e : (cmpi .sgt (k0_pay12 (F := F) v) (broadcast S1x1024 0#32) : IVec S1x1024 1) (ix2 0 k) = 1 ↔ isSep v k.val := by
    show BitVec.ofBool (BitVec.slt 0#32 (k0_pay12 (F := F) v (ix2 0 k))) = 1 ↔ _
    rw [pay12_apply]
    unfold bit
    by_cases h : isSep v k.val
    · simp only [if_pos h, h]; decide
    · simp only [if_neg h, h]; decide
  by_cases h : isSep v k.val
  · rw [if_pos h, if_pos (e.2 h), iota_single_apply]
  · rw [if_neg h, if_neg fun h' => h (e.1 h')]; rfl

/-- The first separator's lane, as the payload computes it, compared with the rows. -/
theorem first_slt (v : S1x1x1024.Idx → BitVec 32) (s : Fin 1024) :
    (cmpi .slt (iota .tc S1024x1 32 [0] iota_S1024x1_d0_w32) (broadcast S1024x1 (extractAt ![0, 0, 0] (shapeCast S1x1x1
      (multiReductionI .minsi [1, 2] S1 (shapeCast S1x1x1024 (firsts (k0_pay12 (F := F) v)) shapeCasts_S1x1024_S1x1x1024) 2147483647#32 reduces_S1x1x1024_S1 rfl)
      shapeCasts_S1_S1x1x1) inpos_S1x1x1_p0_0_0)) : IVec S1024x1 1) (ix2 s 0) = 1 ↔ cnt v (s.val + 1) = 0 := by
  obtain ⟨m, hm, hlt, hs⟩ := lane_min (shapeCast S1x1x1024 (firsts (k0_pay12 (F := F) v)) shapeCasts_S1x1024_S1x1x1024)
    (isSep v) (fun k => by rw [cast_row, firsts_apply]) reduces_S1x1x1024_S1 rfl (ix1 0)
  rw [extract_one, hm]
  show Scalar.cmpi .slt (iota .tc S1024x1 32 [0] iota_S1024x1_d0_w32 (ix2 s 0)) (BitVec.ofNat 32 m) = 1#1 ↔ _
  rw [iota_single_apply]
  have := s.isLt
  show Scalar.cmpi .slt (BitVec.ofNat 32 s.val) (BitVec.ofNat 32 m) = 1#1 ↔ _
  rw [w_slt (by omega) hlt, hs _ s.isLt]
  rfl

/-- The one-separator case: rows before the separator take the first table row, the others the second. -/
theorem pay3_apply (v : S1x1x1024.Idx → BitVec 32) (x : Vec F S1x1024x1024 .f32) (r r' : Vec F S1x1024 .f32) (s l : Fin 1024) :
    k0_pay3 (k0_pay12 (F := F) v) x r r' (ix3 0 s l)
      = FloatOps.addf (x (ix3 0 s l)) (if cnt v (s.val + 1) = 0 then r (ix2 0 l) else r' (ix2 0 l)) := by
  have e := first_slt (F := F) v s
  unfold firsts at e
  unfold k0_pay3
  rw [cast_blk, shapeCast_self (s := S1024x1), shapeCast_self (s := S1x1024), shapeCast_self (s := S1x1024), addf_apply, pay1_apply]
  refine congrArg (FloatOps.addf (x (ix3 0 s l))) ?_
  rw [select_apply, bcast_col, bcast_row, bcast_row]
  by_cases h : cnt v (s.val + 1) = 0
  · rw [if_pos h, if_pos (e.2 h)]
  · rw [if_neg h, if_neg fun h' => h (e.1 h')]

/-- One trip of the blend loop rewrites the rows whose bound is the trip's. -/
theorem pay8_apply (i : grid0.Coords) (v8 : BitVec 32) (v10 : Elt F .i32) (v27 v30 : BitVec 32) (x : Vec F S1x1024x1024 .f32) (b : IVec S1024x1 32)
    (t : Fin (k0_t5_loop i v8 v10).trips) (r : Vec F S1x1024 .f32) (old : Vec F S1x1024x1024 .f32) (s l : Fin 1024) {p M m : ℕ}
    (hb : b (ix2 s 0) = BitVec.ofNat 32 p) (h27 : v27 = BitVec.ofNat 32 M) (h30 : v30 = BitVec.ofNat 32 m)
    (hp : p < 10000) (hM : M < 10000) (hm : m < 10000) (ht : t.val < 10000) :
    k0_pay8 i v8 v10 v27 v30 x b t r old (ix3 0 s l)
      = if min p M = m + 1 + t.val then FloatOps.addf (x (ix3 0 s l)) (r (ix2 0 l)) else old (ix3 0 s l) := by
  unfold k0_pay8
  rw [cast_blk]
  rw [shapeCast_self (s := S1024x1)]
  refine (select_apply _ _ _ _).trans ?_
  rw [bcast_col, addf_apply, bcast_row, pay1_apply]
  rw [show shapeCast S1024x1024 old shapeCasts_S1x1024x1024_S1024x1024 (ix2 s l) = old (ix3 0 s l) from pay1_apply old s l]
  have e : (cmpi .eq (k0_pay6 v27 b) (broadcast S1024x1 (Scf.iv (Scalar.addi v30 1#32) 1#32 t.val)) : IVec S1024x1 1) (ix2 s 0) = 1 ↔ min p M = m + 1 + t.val := by
    show Scalar.cmpi .eq (IntOp.minsi (b (ix2 s 0)) v27) (Scf.iv (Scalar.addi v30 (BitVec.ofNat 32 1)) 1#32 t.val) = 1#1 ↔ _
    rw [hb, h27, h30, minsi_ofNat (by omega) (by omega), w_add (by omega), w_iv (by omega), w_eq (by omega) (by omega)]
  by_cases h : min p M = m + 1 + t.val
  · rw [if_pos h]; exact if_pos (e.2 h)
  · rw [if_neg h]; exact if_neg fun h' => h (e.1 h')

end Cert.KernelIdeal.Hand

end
-- ==== Proof.KernelIdeal.Rows.lean ====
module

public import proofs.«01_k».proof.Proof.KernelIdeal.Dma
public import proofs.«01_k».proof.Proof.KernelIdeal.Pay

@[expose] public section

set_option maxRecDepth 16384

/-! The window's rows: what a copy or a store leaves there and what a load reads. -/

noncomputable section

namespace Cert.KernelIdeal.Hand

open Idealize.ShloMosaic Idealize.ShloMosaic.TcCoe Idealize.ShloMosaic.ValueIdx
open Cert.KernelIdeal.Gen Cert.Words

variable {F : FTy → Type} [FloatOps F]

/-- Contents of the position table, of the window, and of a block of rows. -/
abbrev PeC (F : FTy → Type) := S8192x1024.Idx → F .f32
abbrev WinC (F : FTy → Type) := S1040x1024.Idx → F .f32
abbrev BlkC (F : FTy → Type) := S1x1024x1024.Idx → F .f32

/-- Eight table rows, entry by entry. -/
theorem pe_read (X : PeC F) {b : ℕ} (h : ∀ a, (![b, 0] : Fin 2 → ℕ) a + S8x1024.size a ≤ S8192x1024.size a) (r : Fin 8) (l : Fin 1024)
    (hr : b + r.val < 8192) : (peRows ![b, 0] h).view.read (Elt F) X (ix2 r l) = X (ix2 ⟨b + r.val, hr⟩ l) := by
  refine congrArg X (Shape.idx_ext₂ ?_ ?_)
  · show b + 1 * r.val = b + r.val; omega
  · show 0 + 1 * l.val = l.val; omega

/-- The first `m` rows of the window are the table's rows from `base c` on. -/
def winOK (X : PeC F) (c m : ℕ) (g : WinC F) : Prop :=
  ∀ (r : Fin 1040) (l : Fin 1024), r.val < m → ∃ h : base c + r.val < 8192, g (ix2 r l) = X (ix2 ⟨base c + r.val, h⟩ l)

/-- A window that holds rows up to `m` holds them up to less. -/
theorem winOK_le {X : PeC F} {c m m' : ℕ} {g : WinC F} (h : winOK X c m g) (hm : m' ≤ m) : winOK X c m' g :=
  fun r l hr => h r l (by omega)

/-- Writing eight rows at row `o`. -/
theorem win_write_in (g : WinC F) (w : S8x1024.Idx → F .f32) {o : ℕ} (h : ∀ a, (![o, 0] : Fin 2 → ℕ) a + S8x1024.size a ≤ S1040x1024.size a)
    (r : Fin 1040) (l : Fin 1024) (hr : o ≤ r.val ∧ r.val < o + 8) :
    (winM.view.slice (Rect.unit (s := S1040x1024) ![o, 0] S8x1024.size h)).write (Elt F) g w Finset.univ (ix2 r l) = w (ix2 ⟨r.val - o, by omega⟩ l) := by
  have e : (ix2 r l : S1040x1024.Idx) = (winM.view.slice (Rect.unit (s := S1040x1024) ![o, 0] S8x1024.size h)).emb (ix2 ⟨r.val - o, by omega⟩ l) :=
    Shape.idx_ext₂ (by show r.val = o + 1 * (r.val - o); omega) (by show l.val = 0 + 1 * l.val; omega)
  rw [e]
  exact View.write_emb_of_mem (Val := Elt F) (v := winM.view.slice (Rect.unit (s := S1040x1024) ![o, 0] S8x1024.size h)) g w (Finset.mem_univ _)

/-- A copy into the window leaves the other rows. -/
theorem win_write_out (g : WinC F) (w : S8x1024.Idx → F .f32) {o : ℕ} (h : ∀ a, (![o, 0] : Fin 2 → ℕ) a + S8x1024.size a ≤ S1040x1024.size a)
    (r : Fin 1040) (l : Fin 1024) (hr : ¬(o ≤ r.val ∧ r.val < o + 8)) :
    (winM.view.slice (Rect.unit (s := S1040x1024) ![o, 0] S8x1024.size h)).write (Elt F) g w Finset.univ (ix2 r l) = g (ix2 r l) := by
  refine View.write_of_not_mem (Val := Elt F) (v := winM.view.slice (Rect.unit (s := S1040x1024) ![o, 0] S8x1024.size h)) g w Finset.univ fun hm => hr ?_
  obtain ⟨x, -, hx⟩ := Finset.mem_map.1 hm
  have h0 : o + 1 * (x 0).val = r.val := congrArg (fun i : S1040x1024.Idx => (i 0).val) hx
  have h1 : (x 0).val < 8 := (x 0).isLt
  omega

/-- Eight more rows copied in from the table. -/
theorem winOK_step {X : PeC F} {c m : ℕ} {g : WinC F} (hg : winOK X c m g) (w : S8x1024.Idx → F .f32)
    (h : ∀ a, (![m, 0] : Fin 2 → ℕ) a + S8x1024.size a ≤ S1040x1024.size a) (hb : base c + m + 8 ≤ 8192)
    (hw : ∀ (r : Fin 8) (l : Fin 1024), w (ix2 r l) = X (ix2 ⟨base c + m + r.val, by have := r.isLt; omega⟩ l)) :
    winOK X c (m + 8) ((winM.view.slice (Rect.unit (s := S1040x1024) ![m, 0] S8x1024.size h)).write (Elt F) g w Finset.univ) := by
  intro r l hr
  by_cases hm : r.val < m
  · rw [win_write_out g w h r l (by omega)]
    exact hg r l hm
  · rw [win_write_in g w h r l (by omega), hw]
    refine ⟨by omega, congrArg X (Shape.idx_ext₂ ?_ rfl)⟩
    show base c + m + (r.val - m) = base c + r.val
    omega

/-- The load of window row `o`. -/
theorem win_load (g : WinC F) {o : ℕ} (h : ∀ a, (![o, 0] : Fin 2 → ℕ) a + S1x1024.size a ≤ S1040x1024.size a) (l : Fin 1024) (ho : o < 1040) :
    winM.view.readAt (Elt F) (Rect.unit (s := S1040x1024) ![o, 0] S1x1024.size h).toLoadRect g (ix2 0 l) = g (ix2 ⟨o, ho⟩ l) := by
  refine congrArg g (Shape.idx_ext₂ ?_ ?_)
  · show o + 1 * 0 = o; omega
  · show 0 + 1 * l.val = l.val; omega

/-- The table row for carry `c` plus `p` separators. -/
def peRow (X : PeC F) (c p : ℕ) (l : Fin 1024) : F .f32 := X (ix2 ⟨min (c + p) 8191, by omega⟩ l)

/-- The block a point leaves: every row plus the table row its running count picks. -/
def outBlk (x : BlkC F) (v : S1x1x1024.Idx → BitVec 32) (X : PeC F) (c : ℕ) : BlkC F := fun i =>
  FloatOps.addf (x i) (peRow X c (cnt v ((i 1).val + 1)) (i 2))

/-- A window row is the table's row for its count. -/
theorem winOK_row {X : PeC F} {c m : ℕ} {g : WinC F} (hg : winOK X c m g) {p o : ℕ} (ho : o < 1040) (hm : o < m)
    (ep : base c + o = min (c + p) 8191) (l : Fin 1024) : g (ix2 ⟨o, ho⟩ l) = peRow X c p l := by
  obtain ⟨h, e⟩ := hg ⟨o, ho⟩ l hm
  rw [e]
  exact congrArg X (Shape.idx_ext₂ ep rfl)

/-- A row loaded from the window is the table row its count picks. -/
theorem win_row {X : PeC F} {c m : ℕ} {g : WinC F} (hg : winOK X c m g) {p o : ℕ} (h : ∀ a, (![o, 0] : Fin 2 → ℕ) a + S1x1024.size a ≤ S1040x1024.size a)
    (hm : o < m) (ep : base c + o = min (c + p) 8191) (l : Fin 1024) :
    winM.view.readAt (Elt F) (Rect.unit (s := S1040x1024) ![o, 0] S1x1024.size h).toLoadRect g (ix2 0 l) = peRow X c p l := by
  have ho : o < 1040 := by
    have h0 : o + 1 ≤ 1040 := h 0
    omega
  rw [win_load g h l ho]
  exact winOK_row hg ho hm ep l

/-- An index of a block has a zero first coordinate. -/
theorem idx_blk (i : S1x1024x1024.Idx) : ∃ s l : Fin 1024, i = ix3 0 s l :=
  ⟨i 1, i 2, funext fun a => match a with
    | ⟨0, _⟩ => Subsingleton.elim (α := Fin 1) _ _
    | ⟨1, _⟩ => rfl
    | ⟨2, _⟩ => rfl⟩

section
variable (x : BlkC F) (v : S1x1x1024.Idx → BitVec 32) (X : PeC F) (c : ℕ)

/-- No separator in the block: every row takes the same table row. -/
theorem out_zero (hn : cnt v 1024 = 0) (r : Vec F S1x1024 .f32) (hr : ∀ l, r (ix2 0 l) = peRow X c 0 l) : k0_pay2 x r = outBlk x v X c := by
  funext i
  obtain ⟨s, l, rfl⟩ := idx_blk i
  rw [pay2_apply, hr]
  have h1 := cnt_mono v (show s.val + 1 ≤ 1024 by have := s.isLt; omega)
  have e : cnt v (s.val + 1) = 0 := by omega
  show _ = FloatOps.addf _ (peRow X c (cnt v (s.val + 1)) l)
  rw [e]

/-- One separator in the block. -/
theorem out_one (hn : cnt v 1024 = 1) (r r' : Vec F S1x1024 .f32) (hr : ∀ l, r (ix2 0 l) = peRow X c 0 l) (hr' : ∀ l, r' (ix2 0 l) = peRow X c 1 l) :
    k0_pay3 (k0_pay12 (F := F) v) x r r' = outBlk x v X c := by
  funext i
  obtain ⟨s, l, rfl⟩ := idx_blk i
  rw [pay3_apply, hr, hr']
  have h1 := cnt_mono v (show s.val + 1 ≤ 1024 by have := s.isLt; omega)
  show _ = FloatOps.addf _ (peRow X c (cnt v (s.val + 1)) l)
  by_cases h : cnt v (s.val + 1) = 0
  · rw [if_pos h, h]
  · rw [if_neg h, show cnt v (s.val + 1) = 1 by omega]

/-- The blend loop's state after `t` trips: rows whose table row is reached hold their value, the others the first row's. -/
def blend (t : ℕ) : BlkC F := fun i =>
  if min (mo c + cnt v ((i 1).val + 1)) (mx c (cnt v 1024)) ≤ mo c + t then outBlk x v X c i else FloatOps.addf (x i) (peRow X c 0 (i 2))

/-- Before the first trip every position has the first row. -/
theorem blend_zero (hc : c ≤ 7168) (r : Vec F S1x1024 .f32) (hr : ∀ l, r (ix2 0 l) = peRow X c 0 l) : k0_pay7 x r = blend x v X c 0 := by
  funext i
  obtain ⟨s, l, rfl⟩ := idx_blk i
  rw [pay7_apply, hr]
  unfold blend
  split
  · rename_i h
    have h' : min (mo c + cnt v (s.val + 1)) (mx c (cnt v 1024)) ≤ mo c + 0 := h
    have h1 := cnt_mono v (show s.val + 1 ≤ 1024 by have := s.isLt; omega)
    have h2 := cnt_le v 1024
    show _ = FloatOps.addf _ (peRow X c (cnt v (s.val + 1)) l)
    congr 1
    unfold peRow
    refine congrArg X (Shape.idx_ext₂ ?_ rfl)
    show min (c + 0) 8191 = min (c + cnt v (s.val + 1)) 8191
    have hb := base_le c
    unfold mo mx at h'
    omega
  · rfl

/-- After the last trip every position has its own row. -/
theorem blend_all (hc : c ≤ 7168) : blend x v X c (mx c (cnt v 1024) - mo c) = outBlk x v X c := by
  funext i
  unfold blend
  have h2 := mo_le_mx (c := c) (n := cnt v 1024)
  rw [if_pos (by omega)]

/-- A trip moves the positions from its row on to that row. -/
theorem blend_step (hc : c ≤ 7168) (i : grid0.Coords) (v8 : BitVec 32) (v10 : Elt F .i32) (v27 v30 : BitVec 32) (b : IVec S1024x1 32)
    (t : Fin (k0_t5_loop i v8 v10).trips) (ht : t.val < mx c (cnt v 1024) - mo c) (h27 : v27 = BitVec.ofNat 32 (mx c (cnt v 1024))) (h30 : v30 = BitVec.ofNat 32 (mo c))
    (hb : ∀ s : Fin 1024, b (ix2 s 0) = BitVec.ofNat 32 (mo c + cnt v (s.val + 1)))
    (r : Vec F S1x1024 .f32) (hr : ∀ l, r (ix2 0 l) = peRow X c (1 + t.val) l) :
    k0_pay8 i v8 v10 v27 v30 x b t r (blend x v X c t.val) = blend x v X c (t.val + 1) := by
  funext j
  obtain ⟨s, l, rfl⟩ := idx_blk j
  have h1 := cnt_mono v (show s.val + 1 ≤ 1024 by have := s.isLt; omega)
  have h2 := cnt_le v 1024
  have h3 := mo_le (c := c) (by omega)
  have h4 := mx_le (c := c) (n := cnt v 1024) (by omega) h2
  rw [pay8_apply i v8 v10 v27 v30 x b t r _ s l (hb s) h27 h30 (by omega) (by omega) (by omega) (by omega), hr]
  by_cases h : min (mo c + cnt v (s.val + 1)) (mx c (cnt v 1024)) = mo c + 1 + t.val
  · rw [if_pos h]
    have h' : min (mo c + cnt v (s.val + 1)) (mx c (cnt v 1024)) ≤ mo c + (t.val + 1) := by omega
    refine Eq.symm ((if_pos h').trans ?_)
    show FloatOps.addf _ (peRow X c (cnt v (s.val + 1)) l) = _
    congr 1
    refine congrArg X (Shape.idx_ext₂ ?_ rfl)
    show min (c + cnt v (s.val + 1)) 8191 = min (c + (1 + t.val)) 8191
    have hb := base_le c
    unfold mo mx at h ht
    omega
  · rw [if_neg h]
    unfold blend
    by_cases h' : min (mo c + cnt v (s.val + 1)) (mx c (cnt v 1024)) ≤ mo c + t.val
    · have h'' : min (mo c + cnt v (s.val + 1)) (mx c (cnt v 1024)) ≤ mo c + (t.val + 1) := by omega
      exact (if_pos h').trans (if_pos h'').symm
    · have h'' : ¬ min (mo c + cnt v (s.val + 1)) (mx c (cnt v 1024)) ≤ mo c + (t.val + 1) := by omega
      exact (if_neg h').trans (if_neg h'').symm

end

end Cert.KernelIdeal.Hand

end
-- ==== Proof.KernelIdeal.Steps.lean ====
module

public import proofs.«01_k».proof.Proof.KernelIdeal.Rows

@[expose] public section

set_option maxRecDepth 16384

/-! One rule per memory operation of the body, each about the operation alone. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Words

variable {F : FTy → Type} [FloatOps F]

local notation "𝕄" => MT nD τ sig Unit (Elt F) ℕ (Pipeline.UD sig nD τ) ℕ

/-- The weakest precondition of a program of the kernel's thread. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The whole rectangle places each index at itself. -/
theorem unit_emb {s : Shape} {off : Fin s.rank → ℕ} (h0 : ∀ a, off a = 0) (inb : ∀ a, off a + s.size a ≤ s.size a) (x : s.Idx) :
    (Rect.unit (s := s) off s.size inb).emb x = x := by
  funext a
  apply Fin.ext
  show off a + 1 * (x a).val = (x a).val
  rw [h0]; omega

variable (c : Dev nD)

/-- A load of a whole memref. -/
theorem wp_loadAll {s : Shape} {e : EltTy} {m : Memref sig .tc .vmem s e} {q : PosShare TreeShare} {X : s.Idx → Elt F e} {off : Fin s.rank → ℕ}
    (h0 : ∀ a, off a = 0) {inb : ∀ a, off a + s.size a ≤ s.size a} {hl : m.view.LoadsAt (Rect.unit (s := s) off s.size inb).toLoadRect}
    {Q : ((Rect.unit (s := s) off s.size inb).toLoadRect.shape.Idx → Elt F e) → sProp 𝕄} :
    owns (c : Thread nD τ) m q X ⊢ iprop((owns (c : Thread nD τ) m q X -∗ Q X)
      -∗ WP c (Prog.lift (.load m (Rect.unit (s := s) off s.size inb).toLoadRect hl)) Q) := by
  unfold owns
  iintro ⟨%f, %hf, Hm⟩ HQ
  iapply (wp_load Variants.none (c : Thread nD τ) none Set.univ (m := m) (k := .ret) (Q := Q) (q := q) (S := m.view.set) (View.setOn_subset_set _ _)) $$ Hm
  iintro Hm
  rw [wp_ret]
  imodintro
  have he : m.view.readAt (Elt F) (Rect.unit (s := s) off s.size inb).toLoadRect f = X := by
    rw [← hf]
    funext x
    exact congrArg (m.view.read (Elt F) f) (unit_emb h0 inb x)
  rw [he]
  iapply HQ
  iexists f
  isplitr
  · ipureintro; exact hf
  iexact Hm

/-- A store of a whole memref. -/
theorem wp_storeAll {s : Shape} {e : EltTy} {m : Memref sig .tc .vmem s e} {X w : s.Idx → Elt F e} {off : Fin s.rank → ℕ}
    (h0 : ∀ a, off a = 0) {inb : ∀ a, off a + s.size a ≤ s.size a}
    {hx : (m.access (Rect.unit (s := s) off s.size inb)).Stores Finset.univ} {hm : Finset.univ = Finset.univ ∨ ∀ a, (Rect.unit (s := s) off s.size inb).stride a = 1}
    {Q : PUnit → sProp 𝕄} :
    owns (c : Thread nD τ) m fullShare X ⊢ iprop((owns (c : Thread nD τ) m fullShare w -∗ Q ⟨⟩)
      -∗ WP c (Prog.lift (.store m (Rect.unit (s := s) off s.size inb) w Finset.univ hx hm)) Q) := by
  unfold owns
  iintro ⟨%f, %hf, Hm⟩ HQ
  iapply (wp_store Variants.none (c : Thread nD τ) none Set.univ (m := m) (r := Rect.unit (s := s) off s.size inb) (k := .ret) (Q := Q) (S := m.view.set)
    (View.set_slice_subset _ _)) $$ Hm
  iintro Hm
  rw [wp_ret]
  imodintro
  iapply HQ
  iexists _
  isplitr
  swap; · iexact Hm
  ipureintro
  funext x
  have he := congrFun (View.read_write_univ (Val := Elt F) (v := m.access (Rect.unit (s := s) off s.size inb)) f w) x
  rw [← he]
  exact congrArg (m.view.read (Elt F) _) (unit_emb h0 inb x).symm

/-- A load from a buffer held whole. -/
theorem wp_loadPart {s : Shape} {e : EltTy} {m : Memref sig .tc .vmem s e} {q : PosShare TreeShare} {f : Buf (Elt F) (m.view.loc (c : Thread nD τ))}
    {r : LoadRect s} {hl : m.view.LoadsAt r} {Q : (r.shape.Idx → Elt F e) → sProp 𝕄} :
    (m.view.loc (c : Thread nD τ) ↦{q} f) ⊢ iprop(((m.view.loc (c : Thread nD τ) ↦{q} f) -∗ Q (m.view.readAt (Elt F) r f))
      -∗ WP c (Prog.lift (.load m r hl)) Q) := by
  iintro Hm HQ
  iapply (wp_load Variants.none (c : Thread nD τ) none Set.univ (m := m) (k := .ret) (Q := Q) (q := q) (S := Finset.univ) (Finset.subset_univ _)) $$ Hm
  iintro Hm
  rw [wp_ret]
  imodintro
  iapply HQ
  iexact Hm

/-- A store into a buffer held whole. -/
theorem wp_storePart {s : Shape} {e : EltTy} {cs : CoreSpace} {m : Memref sig .tc cs s e} {f : Buf (Elt F) (m.view.loc (c : Thread nD τ))}
    {r : Rect s} {w : r.shape.Idx → Elt F e} {Mk : Finset r.shape.Idx} {hx : (m.access r).Stores Mk} {hm : Mk = Finset.univ ∨ ∀ a, r.stride a = 1}
    {Q : PUnit → sProp 𝕄} :
    (m.view.loc (c : Thread nD τ) ↦{fullShare} f) ⊢ iprop(((m.view.loc (c : Thread nD τ) ↦{fullShare} (m.access r).write (Elt F) f w Mk) -∗ Q ⟨⟩)
      -∗ WP c (Prog.lift (.store m r w Mk hx hm)) Q) := by
  iintro Hm HQ
  iapply (wp_store Variants.none (c : Thread nD τ) none Set.univ (m := m) (r := r) (k := .ret) (Q := Q) (S := Finset.univ) (Finset.subset_univ _)) $$ Hm
  iintro Hm
  rw [wp_ret]
  imodintro
  iapply HQ
  iexact Hm

/-- The carried word, read. -/
theorem wp_word {f : Buf (Elt F) (wordM.view.loc (c : Thread nD τ))} {q : PosShare TreeShare} {Q : Elt F .i32 → sProp 𝕄} :
    (wordM.view.loc (c : Thread nD τ) ↦{q} f) ⊢ iprop(((wordM.view.loc (c : Thread nD τ) ↦{q} f) -∗ Q (f (ValueIdx.ix1 0)))
      -∗ WP c (smemLoad wordM (Rect.unit (s := S1) ![0] S1.size inb_S1_S1_0) numel1_S1 rfl) Q) := by
  iintro Hm HQ
  iapply (wp_smemLoadElt Variants.none (c : Thread nD τ) none Set.univ (m := wordM) (r := Rect.unit (s := S1) ![0] S1.size inb_S1_S1_0)
    (x := Shape.Idx.first (numel1_S1.symm ▸ Nat.one_pos)) (f := f) (k := .ret) (Q := Q) (q := q) (S := Finset.univ) (Finset.subset_univ _)) $$ Hm
  iintro Hm
  rw [wp_ret]
  imodintro
  have e : (wordM.access (Rect.unit (s := S1) ![0] S1.size inb_S1_S1_0)).read (Elt F) f (Shape.Idx.first (numel1_S1.symm ▸ Nat.one_pos)) = f (ValueIdx.ix1 0) :=
    congrArg f (funext fun a => match a with | ⟨0, _⟩ => Subsingleton.elim (α := Fin 1) _ _)
  rw [e]
  iapply HQ
  iexact Hm

/-- The carried word, written. -/
theorem word_write (f : S1.Idx → BitVec 32) (w : BitVec 32) :
    (wordM.access (Rect.unit (s := S1) ![0] S1.size inb_S1_S1_0)).write (Elt F) f (fun _ => w) Finset.univ (ValueIdx.ix1 0) = w := by
  have e : (ValueIdx.ix1 0 : S1.Idx) = (wordM.access (Rect.unit (s := S1) ![0] S1.size inb_S1_S1_0)).emb (ValueIdx.ix1 0) :=
    funext fun a => match a with | ⟨0, _⟩ => Subsingleton.elim (α := Fin 1) _ _
  rw [e]
  exact View.write_emb_of_mem (Val := Elt F) (v := wordM.access (Rect.unit (s := S1) ![0] S1.size inb_S1_S1_0)) f (fun _ => w) (Finset.mem_univ _)

/-- A load of a prefetch slot. -/
theorem wp_loadSlot (s : Fin 2) {o : Fin 2 → ℕ} (eo : o = ![s.val * 8, 0]) {inb : ∀ a, o a + S8x1024.size a ≤ S16x1024.size a}
    {hl : bufM.view.LoadsAt (Rect.unit (s := S16x1024) o S8x1024.size inb).toLoadRect}
    {f : Buf (Elt F) ((slot s).view.loc (c : Thread nD τ))} {Q : ((Rect.unit (s := S16x1024) o S8x1024.size inb).toLoadRect.shape.Idx → Elt F .f32) → sProp 𝕄} :
    slotP c s f ⊢ iprop((slotP c s f -∗ Q ((slot s).view.read (Elt F) f))
      -∗ WP c (Prog.lift (.load bufM (Rect.unit (s := S16x1024) o S8x1024.size inb).toLoadRect hl)) Q) := by
  subst eo
  iintro Hm HQ
  iapply (wp_load Variants.none (c : Thread nD τ) none Set.univ (m := bufM) (k := .ret) (Q := Q) (q := fullShare) (S := (slot s).view.set) (by
    rw [View.set_slice]; exact subset_rfl)) $$ Hm
  iintro Hm
  rw [wp_ret]
  imodintro
  rw [show bufM.view.readAt (Elt F) (Rect.unit (s := S16x1024) ![s.val * 8, 0] S8x1024.size inb).toLoadRect f = (slot s).view.read (Elt F) f from rfl]
  iapply HQ
  iexact Hm

/-- A checked side condition that holds. -/
theorem wp_assumed {P : Prop} {d : Decidable P} (h : P) {Q : PLift P → sProp 𝕄} : Q ⟨h⟩ ⊢ WP c (Prog.lift (.assume P d)) Q := by
  iintro HQ
  iapply (wp_assume Variants.none (c : Thread nD τ) none Set.univ (k := .ret) h)
  rw [wp_ret]
  imodintro
  iexact HQ

end Cert.KernelIdeal.Hand

end
-- ==== Proof.KernelIdeal.Parts.lean ====
module

public import proofs.«01_k».proof.Proof.KernelIdeal.Steps

@[expose] public section

set_option maxRecDepth 16384

/-! The straight-line parts of the body: the count and the carry, the first prefetch, the next prefetch and the landed head. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Words Idealize.ShloMosaic.ValueIdx

variable {F : FTy → Type} [FloatOps F]

local notation "𝕄" => MT nD τ sig Unit (Elt F) ℕ (Pipeline.UD sig nD τ) ℕ

/-- The slot a point waits on. -/
def here (i : grid0.Coords) : Fin 2 := ⟨(i 0).val % 2, by omega⟩
/-- The slot it fills for the next point. -/
def next (i : grid0.Coords) : Fin 2 := ⟨((i 0).val + 1) % 2, by omega⟩

variable (c : Dev nD)

/-- A step, then the rest. -/
theorem wp_bindE {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  show _ ⊢ wp _ _ _ _ _
  rw [wp_bind]

/-- Returning a value. -/
theorem wp_pureE {α : Type} {a : α} {Q : α → sProp 𝕄} : Q a ⊢ WP c (pure a : Prog (TpuEff nD τ sig (Elt F) Λ₀ .tc) α) Q := by
  show _ ⊢ wp _ _ _ _ _
  rw [wp_pure]
  iintro H
  imodintro
  iexact H

/-- Two programs in sequence. -/
theorem wp_seq {α β : Type} {p : Prog (TpuEff nD τ sig (Elt F) Λ₀ .tc) α} {k : α → Prog (TpuEff nD τ sig (Elt F) Λ₀ .tc) β} {P : sProp 𝕄}
    {R : α → sProp 𝕄} {Q : β → sProp 𝕄} (h1 : P ⊢ WP c p R) (h2 : ∀ a, R a ⊢ WP c (k a) Q) : P ⊢ WP c (p >>= k) Q := by
  show P ⊢ wp _ _ _ _ _
  rw [wp_bind]
  exact h1.trans (wp_mono _ _ _ h2)

section
variable (i : grid0.Coords) (m1 : Memref sig .tc .vmem S1x1x1024 .i32) (w1 : m1.IsWhole) (m2 : Memref sig .tc .vmem S1x1024x1024 .f32) (w2 : m2.IsWhole)
  (w3 : peM.IsWhole) (m4 : Memref sig .tc .vmem S1x1024x1024 .f32) (w4 : m4.IsWhole) (w5 : bufM.IsWhole) (w6 : winM.IsWhole) (w8 : wordM.IsWhole)

/-- The count of separators in the block. -/
abbrev cntW (v : S1x1x1024.Idx → BitVec 32) : BitVec 32 := extractAt ![0, 0, 0] (k0_pay13 (F := F) v) inpos_S1x1x1_p0_0_0

/-- The zero offset. -/
theorem zero3 (a : Fin 3) : (![0, 0, 0] : Fin 3 → ℕ) a = 0 := by
  match a with
  | ⟨0, _⟩ => rfl
  | ⟨1, _⟩ => rfl
  | ⟨2, _⟩ => rfl

/-- The count and the carry are read. -/
theorem wp_part2 {v : S1x1x1024.Idx → BitVec 32} {f : S1.Idx → BitVec 32} {n k : ℕ} (h : Known i (cntW (F := F) v) (f (ix1 0)) n k)
    {Q : (Σ' (arg0 : BitVec 32) (v4 : IVec S1x1024 32) (v8 : BitVec 32) (v10 : Elt F .i32) (k0_hw1 : k0_chk1 i v8 v10) (v11 : BitVec 32) (v24 : BitVec 32) (v27 : BitVec 32) (v30 : BitVec 32) (c8_i32_11 : BitVec 32) (v31 : BitVec 32) (v33 : BitVec 32), BitVec 32) → sProp 𝕄} :
    iprop(owns (Val := Elt F) (c : Thread nD τ) m1 fullShare v ∗ (wordM.view.loc (c : Thread nD τ) ↦{fullShare} f)) ⊢ iprop(
      (∀ r, ⌜∃ a b d, r = ⟨BitVec.ofNat 32 (i 0).val, k0_pay12 (F := F) v, cntW (F := F) v, f (ix1 0), chk1_of h, carryW i (f (ix1 0)), baseW (carryW i (f (ix1 0))),
          maxW (carryW i (f (ix1 0))) (cntW (F := F) v), minW (carryW i (f (ix1 0))), 8#32, a, b, d⟩⌝ -∗
        iprop(owns (Val := Elt F) (c : Thread nD τ) m1 fullShare v ∗ (wordM.view.loc (c : Thread nD τ) ↦{fullShare} f)) -∗ Q r)
      -∗ WP c (k0_part2 i m1 w1 m2 w2 peM w3 m4 w4 bufM w5 winM w6 cc0_scratch2 wordM w8) Q) := by
  rw [k0_part2_eq_skeleton]
  unfold k0_part2_skel
  simp only [wp_bind]
  iintro ⟨H1, Hw⟩ HQ
  iapply (wp_loadAll c zero3) $$ H1
  iintro H1
  iapply (wp_word c) $$ Hw
  iintro Hw
  iapply (wp_assumed c (chk1_of h))
  rw [wp_pure]
  imodintro
  iapply HQ $$ %_ []
  · ipureintro; exact ⟨_, _, _, rfl⟩
  isplitl [H1]; · iexact H1
  iexact Hw

/-- What the point finds in flight: nothing at the first point, the head for its own carry afterwards. -/
def arriving (X : PeC F) (i : grid0.Coords) (n : ℕ) : sProp 𝕄 :=
  if (i 0).val = 0 then idle c X (here i) else flying c X (here i) n

/-- What the point leaves in flight: the head for the next carry, except at the last point. -/
def leaving (X : PeC F) (i : grid0.Coords) (n : ℕ) : sProp 𝕄 :=
  if (i 0).val + 1 < 32 then flying c X (next i) n else idle c X (next i)

/-- The first point starts its own copy; then the copy of the point is in flight. -/
theorem wp_part3 {X : PeC F} {v8 v10 : BitVec 32} {n k : ℕ} (h : Known i v8 v10 n k) (hw : k0_chk1 i v8 v10) {v24 v27 v30 x y z u : BitVec 32}
    {Q : (Σ' (v48 : BitVec 32) (v49 : BitVec 32) (v59 : BitVec 32) (v73 : BitVec 32), BitVec 32) → sProp 𝕄} :
    arriving c X i n ⊢ iprop((∀ r, ⌜∃ a b d, r = ⟨a, b, d, modW (Scalar.addi (BitVec.ofNat 32 (i 0).val) 1#32) 8#32, 0#32⟩⌝ -∗ flying c X (here i) n -∗ Q r)
      -∗ WP c (k0_part3 i m1 w1 m2 w2 peM w3 m4 w4 bufM w5 winM w6 cc0_scratch2 wordM w8 (BitVec.ofNat 32 (i 0).val) v8 v10 hw v24 v27 v30 x y z u) Q) := by
  rw [k0_part3_eq_skeleton]
  unfold k0_part3_skel arriving
  by_cases h0 : (i 0).val = 0
  · have hz : here i = 0 := Fin.ext (by show (i 0).val % 2 = 0; omega)
    rw [if_pos h0, hz]
    simp only [dif_pos ((cond1_iff i).2 h0), wp_bind]
    iintro HI HQ
    iapply (wp_start c X 0 n _ _ _ rfl (off1_eq h) rfl) $$ HI
    iintro HF
    iapply (wp_pureE c)
    iapply HQ $$ %_ []
    · ipureintro; exact ⟨_, _, _, rfl⟩
    iexact HF
  · rw [if_neg h0]
    simp only [dif_neg (fun e => h0 ((cond1_iff i).1 e)), wp_bind]
    iintro HI HQ
    iapply (wp_pureE c)
    iapply HQ $$ %_ []
    · ipureintro; exact ⟨_, _, _, rfl⟩
    iexact HI

/-- The wait for the head and its copy into the window. -/
theorem wp_head {X : PeC F} {v8 v10 : BitVec 32} {n k : ℕ} (h : Known i v8 v10 n k) (hw : k0_chk1 i v8 v10) {g : WinC F} {a : BitVec 32}
    {W : Waits sig Unit} {Q : BitVec 32 → sProp 𝕄}
    {p1 : (peRows (k0_off7 i v10) (k0_off7_inb i v8 v10 hw)).view.WordExact} {p2 : (slotOf (k0_off6 i) (k0_off6_inb i)).view.WordExact}
    {p3 : bufM.view.LoadsAt (Rect.unit (s := S16x1024) (k0_off8 i) S8x1024.size (k0_off8_inb i)).toLoadRect}
    {p4 : winM.view.LoadsAt (Rect.unit (s := S1040x1024) ![0, 0] S8x1024.size inb_S1040x1024_S8x1024_0_0).toLoadRect}
    {p5 : (winM.access (Rect.unit (s := S1040x1024) ![0, 0] S8x1024.size inb_S1040x1024_S8x1024_0_0)).Stores Finset.univ}
    {p6 : Finset.univ = Finset.univ ∨ ∀ a, (Rect.unit (s := S1040x1024) ![0, 0] S8x1024.size inb_S1040x1024_S8x1024_0_0).stride a = 1} :
    iprop((winM.view.loc (c : Thread nD τ) ↦{fullShare} g) ∗ flying c X (here i) n ∗ owes (c : Thread nD τ) 0 W)
      ⊢ iprop((∀ g' : WinC F, ⌜winOK X n 8 g'⌝ -∗ iprop((winM.view.loc (c : Thread nD τ) ↦{fullShare} g') ∗ idle c X (here i) ∗ (∃ W', owes (c : Thread nD τ) 0 W')) -∗ Q a)
      -∗ WP c (do
          Prog.lift (.waitDma2 (cellAt (k0_off5 i) (k0_off5_inb i)) (peRows (k0_off7 i v10) (k0_off7_inb i v8 v10 hw)) (slotOf (k0_off6 i) (k0_off6_inb i)) p1 p2)
          let v103 : Vec F S8x1024 .f32 ← Prog.lift (.load bufM (Rect.unit (s := S16x1024) (k0_off8 i) S8x1024.size (k0_off8_inb i)).toLoadRect p3)
          let _ : Vec F S8x1024 .f32 ← Prog.lift (.load winM (Rect.unit (s := S1040x1024) ![0, 0] S8x1024.size inb_S1040x1024_S8x1024_0_0).toLoadRect p4)
          Prog.lift (.store winM (Rect.unit (s := S1040x1024) ![0, 0] S8x1024.size inb_S1040x1024_S8x1024_0_0) (k0_pay14 v103) Finset.univ p5 p6)
          pure a) Q) := by
  simp only [wp_bind]
  iintro ⟨Hg, HF, HW⟩ HQ
  iapply (wp_finish c X (here i) n _ _ _ (off6_eq i) (off5_eq i)) $$ [HF HW]
  · isplitl [HF]; · iexact HF
    iexact HW
  unfold landed
  iintro ⟨⟨Hv, ⟨%b, %hb, Hb⟩, Hp⟩, HW⟩
  iapply (wp_loadSlot c (here i) (off8_eq i)) $$ Hb
  iintro Hb
  iapply (wp_loadPart c (m := winM)) $$ Hg
  iintro Hg
  iapply (wp_storePart c (m := winM)) $$ Hg
  iintro Hg
  rw [wp_pure]
  imodintro
  have hg : winOK X n 8 ((winM.access (Rect.unit (s := S1040x1024) ![0, 0] S8x1024.size inb_S1040x1024_S8x1024_0_0)).write (Elt F) g
      (k0_pay14 (F := F) ((slot (here i)).view.read (Elt F) b)) Finset.univ) := by
    have hz : winOK X n 0 g := fun r l hr => absurd hr (Nat.not_lt_zero _)
    have e : k0_pay14 (F := F) ((slot (here i)).view.read (Elt F) b) = (slot (here i)).view.read (Elt F) b := by
      unfold k0_pay14
      exact shapeCast_self _ _
    rw [e, hb]
    have hb' := base_le' n
    exact winOK_step hz _ inb_S1040x1024_S8x1024_0_0 (by omega) fun r l => pe_read X _ r l _
  iapply HQ $$ %_ %hg
  isplitl [Hg]; · iexact Hg
  isplitl [Hv Hb Hp]
  · unfold idle
    isplitl [Hv]; · iexact Hv
    isplitl [Hb]
    · iexists b; iexact Hb
    iexact Hp
  iexact HW

/-- The next carry is stored, the next point's copy started, the copy of this point awaited and its rows moved to the window. -/
theorem wp_part4 {X : PeC F} {v8 v10 : BitVec 32} {n k : ℕ} (h : Known i v8 v10 n k) (hw : k0_chk1 i v8 v10) {v24 v48 v59 : BitVec 32} {f : S1.Idx → BitVec 32} {g : WinC F}
    {W : Waits sig Unit} {Q : BitVec 32 → sProp 𝕄} :
    iprop((wordM.view.loc (c : Thread nD τ) ↦{fullShare} f) ∗ (winM.view.loc (c : Thread nD τ) ↦{fullShare} g) ∗ flying c X (here i) n ∗ idle c X (next i) ∗ owes (c : Thread nD τ) 0 W)
      ⊢ iprop((∀ (a : BitVec 32) (f' : S1.Idx → BitVec 32) (g' : WinC F), ⌜f' (ix1 0) = nextW i v8 v10⌝ -∗ ⌜winOK X n 8 g'⌝ -∗
        iprop((wordM.view.loc (c : Thread nD τ) ↦{fullShare} f') ∗ (winM.view.loc (c : Thread nD τ) ↦{fullShare} g') ∗ idle c X (here i) ∗ leaving c X i (nextC (i 0).val n k) ∗ (∃ W', owes (c : Thread nD τ) 0 W'))
          -∗ Q a)
      -∗ WP c (k0_part4 i m1 w1 m2 w2 peM w3 m4 w4 bufM w5 winM w6 cc0_scratch2 wordM w8 (BitVec.ofNat 32 (i 0).val) v8 v10 hw (carryW i v10) v24 v48 v59
          (modW (Scalar.addi (BitVec.ofNat 32 (i 0).val) 1#32) 8#32) 0#32) Q) := by
  rw [k0_part4_eq_skeleton]
  unfold k0_part4_skel leaving
  iintro ⟨Hw, Hg, HF, HI, HW⟩ HQ
  iapply (wp_bindE c)
  iapply (wp_word c) $$ Hw
  iintro Hw
  iapply (wp_bindE c)
  iapply (wp_storePart c (m := wordM)) $$ Hw
  iintro Hw
  by_cases h2 : (i 0).val + 1 < 32
  · rw [if_pos h2, dif_pos ((cond2_iff i).2 h2)]
    iapply (wp_bindE c)
    iapply (wp_start c X (next i) (nextC (i 0).val n k) _ _ _ (off3_eq i) (off4_eq h) (off2_eq i)) $$ HI
    iintro HL
    iapply (wp_head c i h hw) $$ [Hg HF HW]
    · isplitl [Hg]; · iexact Hg
      isplitl [HF]; · iexact HF
      iexact HW
    iintro %g' %hg ⟨Hg, HI, HW⟩
    iapply HQ $$ %_ %_ %_ %(word_write (F := F) _ _) %hg
    isplitl [Hw]; · iexact Hw
    isplitl [Hg]; · iexact Hg
    isplitl [HI]; · iexact HI
    isplitl [HL]; · iexact HL
    iexact HW
  · rw [if_neg h2, dif_neg (fun e => h2 ((cond2_iff i).1 e))]
    iapply (wp_head c i h hw) $$ [Hg HF HW]
    · isplitl [Hg]; · iexact Hg
      isplitl [HF]; · iexact HF
      iexact HW
    iintro %g' %hg ⟨Hg, HJ, HW⟩
    iapply HQ $$ %_ %_ %_ %(word_write (F := F) _ _) %hg
    isplitl [Hw]; · iexact Hw
    isplitl [Hg]; · iexact Hg
    isplitl [HJ]; · iexact HJ
    isplitl [HI]; · iexact HI
    iexact HW

end

end Cert.KernelIdeal.Hand

end
-- ==== Proof.KernelIdeal.Loops.lean ====
module

public import proofs.«01_k».proof.Proof.KernelIdeal.Parts

@[expose] public section

set_option maxRecDepth 16384

/-! The body's loops: the copies of the window's other rows, the running counts, and the blend. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Words Idealize.ShloMosaic.ValueIdx

variable {F : FTy → Type} [FloatOps F]

local notation "𝕄" => MT nD τ sig Unit (Elt F) ℕ (Pipeline.UD sig nD τ) ℕ

variable (c : Dev nD)

/-- A loop by an invariant over the trips done. -/
theorem wp_loop {σ : Type} {l : Scf.Loop 32} {ok : l.OK} {a₀ : σ} {body : Fin l.trips → σ → Prog (TpuEff nD τ sig (Elt F) Λ₀ .tc) σ}
    (I : ℕ → σ → sProp 𝕄) (hb : ∀ (t : Fin l.trips) (a : σ), I t.val a ⊢ WP c (body t a) (I (t.val + 1))) {N : ℕ} (hN : l.trips = N) {Q : σ → sProp 𝕄} :
    I 0 a₀ ⊢ iprop((∀ a, I N a -∗ Q a) -∗ WP c (Scf.Loop.for l ok a₀ body) Q) := by
  subst hN
  iintro HI HQ
  iapply (Scf.wp_for _ _ _ l.lb l.ub l.st ok a₀ body I hb)
  isplitl [HI]; · iexact HI
  iexact HQ

/-- A loop of no trips. -/
theorem wp_loop0 {σ : Type} {l : Scf.Loop 32} {ok : l.OK} {a₀ : σ} {body : Fin l.trips → σ → Prog (TpuEff nD τ sig (Elt F) Λ₀ .tc) σ}
    (hN : l.trips = 0) {Q : σ → sProp 𝕄} : Q a₀ ⊢ WP c (Scf.Loop.for l ok a₀ body) Q := by
  iintro HQ
  iapply (wp_loop c (fun _ a => iprop(⌜a = a₀⌝ ∗ Q a₀)) (fun t => absurd t.isLt (by omega)) hN) $$ [HQ]
  · isplitr
    · ipureintro; rfl
    iexact HQ
  iintro %a ⟨%e, HQ⟩
  subst e
  iexact HQ

section
variable (i : grid0.Coords) (m1 : Memref sig .tc .vmem S1x1x1024 .i32) (w1 : m1.IsWhole) (m2 : Memref sig .tc .vmem S1x1024x1024 .f32) (w2 : m2.IsWhole)
  (w3 : peM.IsWhole) (m4 : Memref sig .tc .vmem S1x1024x1024 .f32) (w4 : m4.IsWhole) (w5 : bufM.IsWhole) (w6 : winM.IsWhole) (w8 : wordM.IsWhole)

/-- The copies of the window's rows after the first eight. -/
theorem wp_t1 {X : PeC F} {v8 v10 : BitVec 32} {n k : ℕ} (h : Known i v8 v10 n k) (hw : k0_chk1 i v8 v10) (h3 : k0_cond3 i v8 v10 = 1#1) {g : WinC F}
    (hg : winOK X n 8 g) {W : Waits sig Unit} {Q : BitVec 32 → sProp 𝕄} :
    iprop(semVal ((c : Thread nD τ), SemLoc.dma (cell (here i))) 0 ∗ (winM.view.loc (c : Thread nD τ) ↦{fullShare} g) ∗ peP c X qW ∗ owes (c : Thread nD τ) 0 W)
      ⊢ iprop((∀ (a : BitVec 32) (g' : WinC F), ⌜winOK X n (8 * (mx n k / 8 + 1)) g'⌝ -∗ iprop(semVal ((c : Thread nD τ), SemLoc.dma (cell (here i))) 0
          ∗ (winM.view.loc (c : Thread nD τ) ↦{fullShare} g') ∗ peP c X qW ∗ (∃ W', owes (c : Thread nD τ) 0 W')) -∗ Q a)
      -∗ WP c (Scf.Loop.for (k0_t1_loop i v8 v10) (k0_t1_ok i v8 v10 hw h3) 0#32
          (k0_t1_body i m1 w1 m2 w2 peM w3 m4 w4 bufM w5 winM w6 cc0_scratch2 wordM w8 v8 v10 hw h3)) Q) := by
  iintro ⟨Hv, Hg, Hp, HW⟩ HQ
  iapply (wp_loop c (fun t _ => iprop(∃ (g' : WinC F) (W' : Waits sig Unit), ⌜winOK X n (8 * (t + 1)) g'⌝
      ∗ semVal ((c : Thread nD τ), SemLoc.dma (cell (here i))) 0 ∗ (winM.view.loc (c : Thread nD τ) ↦{fullShare} g') ∗ peP c X qW ∗ owes (c : Thread nD τ) 0 W'))
    (fun t a => ?_) (t1_trips h)) $$ [Hv Hg Hp HW]
  · have ht : t.val < mx n k / 8 := by have := t.isLt; have := t1_trips h; omega
    have hmx := mx_le h.lc' h.ln
    have hb := base_le' n
    have hbm : base n + mx n k ≤ 8191 ∨ mx n k = 0 := by unfold mx; omega
    unfold k0_t1_body
    iintro ⟨%g', %W', %hg', Hv, Hg, Hp, HW⟩
    iapply (wp_fetch c X (here i) _ _ _ (off9_eq i)) $$ [Hv Hg Hp HW]
    · isplitl [Hv]; · iexact Hv
      isplitl [Hg]; · iexact Hg
      isplitl [Hp]; · iexact Hp
      iexact HW
    iintro ⟨Hv, Hg, Hp, ⟨%W'', HW⟩⟩
    iexists _; iexists W''
    isplitr
    swap
    · isplitl [Hv]; · iexact Hv
      isplitl [Hg]; · iexact Hg
      isplitl [Hp]; · iexact Hp
      iexact HW
    ipureintro
    have key : ∀ (o o' : Fin 2 → ℕ) (q : ∀ a, o a + S8x1024.size a ≤ S1040x1024.size a) (q' : ∀ a, o' a + S8x1024.size a ≤ S8192x1024.size a),
        o = ![8 * (t.val + 1), 0] → o' = ![base n + 8 * (1 + t.val), 0] →
        winOK X n (8 * (t.val + 1 + 1)) ((winRows o q).view.write (Elt F) g' ((peRows o' q').view.read (Elt F) X) Finset.univ) := by
      intro o o' q q' e e'
      subst e e'
      have hs := winOK_step hg' ((peRows _ q').view.read (Elt F) X) q (by omega) (fun r l => by
        rw [pe_read X q' r l (by have := r.isLt; omega)]
        refine congrArg X (Shape.idx_ext₂ ?_ rfl)
        show base n + 8 * (1 + t.val) + r.val = base n + 8 * (t.val + 1) + r.val
        omega)
      exact hs
    exact key _ _ _ _ ((off10_eq h t).trans (by rw [Nat.add_comm])) (off11_eq h t)
  · iexists g; iexists W
    isplitr
    · ipureintro; exact hg
    isplitl [Hv]; · iexact Hv
    isplitl [Hg]; · iexact Hg
    isplitl [Hp]; · iexact Hp
    iexact HW
  · iintro %a ⟨%g', %W', %hg', Hv, Hg, Hp, HW⟩
    iapply HQ $$ %_ %_ %hg'
    isplitl [Hv]; · iexact Hv
    isplitl [Hg]; · iexact Hg
    isplitl [Hp]; · iexact Hp
    iexists W'; iexact HW

/-- The running counts, each added to the carry's row. -/
theorem wp_t3 {v : S1x1x1024.Idx → BitVec 32} {v8 v10 : BitVec 32} {n : ℕ} (h : Known i v8 v10 n (cnt v 1024)) (hw : k0_chk1 i v8 v10) (h6 : k0_cond6 i v8 v10 = 1#1)
    {Q : IVec S1024x1 32 → sProp 𝕄} :
    iprop(∀ b, ⌜∀ s : Fin 1024, b (ix2 s 0) = BitVec.ofNat 32 (mo n + cnt v (s.val + 1))⌝ -∗ Q b)
      ⊢ WP c (Scf.Loop.for (k0_t3_loop v8) (k0_t3_ok i v8 v10 hw h6) (k0_pay11 (BitVec.ofNat 32 (mo n)))
          (k0_t3_body (F := F) i m1 w1 m2 w2 peM w3 m4 w4 bufM w5 winM w6 cc0_scratch2 wordM w8 v8 v10 hw h6 (k0_pay10 (k0_pay12 (F := F) v))
            (iota .tc S1024x1 32 [0] iota_S1024x1_d0_w32) 0#32 1#32)) Q := by
  iintro HQ
  iapply (wp_loop c (fun t b => iprop(⌜∀ s : Fin 1024, b (ix2 s 0) = BitVec.ofNat 32 (mo n + min t (cnt v (s.val + 1)))⌝))
    (fun t b => ?_) (t3_trips h.hn h.ln)) $$ []
  · have ht : t.val < cnt v 1024 := by have := t.isLt; have := t3_trips h.hn h.ln; omega
    have hk := h.ln
    unfold k0_t3_body
    iintro %hb
    iapply (wp_pureE c)
    ipureintro
    intro s
    rw [pay4_apply v v8 _ _ (pay10_apply v) (fun s => by rw [iota_single_apply]) t (by omega) b s _ (hb s)]
    refine congrArg (BitVec.ofNat 32) ?_
    split <;> omega
  · ipureintro
    intro s
    rw [Nat.zero_min]
    rfl
  · iintro %b %hb
    iapply HQ $$ %_ []
    ipureintro
    intro s
    rw [hb s, Nat.min_eq_right (cnt_mono v (by have := s.isLt; omega))]

/-- A window row loaded is the table's row for its count. -/
theorem load_row {X : PeC F} {n m : ℕ} {g : WinC F} (hg : winOK X n m g) {p o : ℕ} {off : Fin 2 → ℕ} (eo : off = ![o, 0])
    (inb : ∀ a, off a + S1x1024.size a ≤ S1040x1024.size a) (hm : o < m) (ep : base n + o = min (n + p) 8191) (l : Fin 1024) :
    winM.view.readAt (Elt F) (Rect.unit (s := S1040x1024) off S1x1024.size inb).toLoadRect g (ix2 0 l) = peRow X n p l := by
  subst eo
  exact win_row hg inb hm ep l

/-- The blend: one table row a trip. -/
theorem wp_t5 {X : PeC F} {v : S1x1x1024.Idx → BitVec 32} {x : BlkC F} {v8 v10 : BitVec 32} {n : ℕ} (h : Known i v8 v10 n (cnt v 1024)) (hw : k0_chk1 i v8 v10)
    (h6 : k0_cond6 i v8 v10 = 1#1) {g : WinC F} (hg : winOK X n (8 * (mx n (cnt v 1024) / 8 + 1)) g) {v27 v30 : BitVec 32}
    (e27 : v27 = BitVec.ofNat 32 (mx n (cnt v 1024))) (e30 : v30 = BitVec.ofNat 32 (mo n)) {b : IVec S1024x1 32}
    (hb : ∀ s : Fin 1024, b (ix2 s 0) = BitVec.ofNat 32 (mo n + cnt v (s.val + 1))) {Q : BitVec 32 → sProp 𝕄} :
    iprop((winM.view.loc (c : Thread nD τ) ↦{fullShare} g) ∗ owns (Val := Elt F) (c : Thread nD τ) m4 fullShare (blend x v X n 0))
      ⊢ iprop((∀ a, iprop((winM.view.loc (c : Thread nD τ) ↦{fullShare} g) ∗ owns (Val := Elt F) (c : Thread nD τ) m4 fullShare (outBlk x v X n)) -∗ Q a)
      -∗ WP c (Scf.Loop.for (k0_t5_loop i v8 v10) (k0_t5_ok i v8 v10 hw h6) 0#32
          (k0_t5_body i m1 w1 m2 w2 peM w3 m4 w4 bufM w5 winM w6 cc0_scratch2 wordM w8 v8 v10 hw v27 v30 x h6 b)) Q) := by
  iintro H HQ
  iapply (wp_loop c (fun t _ => iprop((winM.view.loc (c : Thread nD τ) ↦{fullShare} g) ∗ owns (Val := Elt F) (c : Thread nD τ) m4 fullShare (blend x v X n t)))
    (fun t a => ?_) (t5_trips h)) $$ H
  · have ht : t.val < mx n (cnt v 1024) - mo n := by have := t.isLt; have := t5_trips h; omega
    have hlc := h.lc'
    have hbl := base_le n
    unfold k0_t5_body
    iintro ⟨Hg, H4⟩
    iapply (wp_bindE c)
    iapply (wp_loadPart c (m := winM)) $$ Hg
    iintro Hg
    iapply (wp_bindE c)
    iapply (wp_loadAll c zero3) $$ H4
    iintro H4
    iapply (wp_bindE c)
    iapply (wp_loadAll c zero3) $$ H4
    iintro H4
    iapply (wp_bindE c)
    iapply (wp_storeAll c zero3) $$ H4
    iintro H4
    iapply (wp_pureE c)
    isplitl [Hg]; · iexact Hg
    have e := blend_step x v X n hlc i v8 v10 v27 v30 b t ht e27 e30 hb _ (load_row hg (off19_eq h t) (k0_off19_inb i v8 v10 hw t h6) (p := 1 + t.val)
      (by omega) (by unfold mx mo at *; omega))
    rw [← e]
    iexact H4
  · rw [blend_all x v X n h.lc']
    iexact HQ

end

end Cert.KernelIdeal.Hand

end
-- ==== Proof.KernelIdeal.Body.lean ====
module

public import proofs.«01_k».proof.Proof.KernelIdeal.Loops

@[expose] public section

set_option maxRecDepth 16384

/-! The body as a whole. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Words Idealize.ShloMosaic.ValueIdx

variable {F : FTy → Type} [FloatOps F]

local notation "𝕄" => MT nD τ sig Unit (Elt F) ℕ (Pipeline.UD sig nD τ) ℕ

variable (c : Dev nD)

/-- A conditional followed by the same rest on both sides: an assertion `R` that either side reaches is enough. -/
theorem wp_ite {α : Type} {C : Prop} {d : Decidable C} {A : C → Prog (TpuEff nD τ sig (Elt F) Λ₀ .tc) α} {B : ¬C → Prog (TpuEff nD τ sig (Elt F) Λ₀ .tc) α}
    {K : Prog (TpuEff nD τ sig (Elt F) Λ₀ .tc) α} (hB : ∀ h, B h = K) {P R : sProp 𝕄} {Q : α → sProp 𝕄}
    (hN : ¬C → P ⊢ R) (hA : ∀ h (T : sProp 𝕄), (R ⊢ T) → T = WP c K Q → P ⊢ WP c (A h) Q) (hK : R ⊢ WP c K Q) : P ⊢ WP c (dite C A B) Q := by
  by_cases h : C
  · rw [dif_pos h]; exact hA h _ hK rfl
  · rw [dif_neg h, hB h]; exact (hN h).trans hK

section
variable (i : grid0.Coords) (m1 : Memref sig .tc .vmem S1x1x1024 .i32) (w1 : m1.IsWhole) (m2 : Memref sig .tc .vmem S1x1024x1024 .f32) (w2 : m2.IsWhole)
  (w3 : peM.IsWhole) (m4 : Memref sig .tc .vmem S1x1024x1024 .f32) (w4 : m4.IsWhole) (w5 : bufM.IsWhole) (w6 : winM.IsWhole) (w8 : wordM.IsWhole)
  (X : PeC F) (v : S1x1x1024.Idx → BitVec 32) (x : BlkC F) (n : ℕ)

/-- What a point needs, with carry `n`, tokens `v` and rows `x`. -/
def bodyIn : sProp 𝕄 :=
  iprop(owns (Val := Elt F) (c : Thread nD τ) m1 fullShare v ∗ owns (Val := Elt F) (c : Thread nD τ) m2 fullShare x ∗ (∃ y, owns (Val := Elt F) (c : Thread nD τ) m4 fullShare y)
    ∗ arriving c X i n ∗ idle c X (next i) ∗ (∃ f : S1.Idx → BitVec 32, ⌜carryW i (f (ix1 0)) = BitVec.ofNat 32 n⌝ ∗ (wordM.view.loc (c : Thread nD τ) ↦{fullShare} f))
    ∗ (∃ g : WinC F, winM.view.loc (c : Thread nD τ) ↦{fullShare} g) ∗ peP c X qW ∗ (∃ W, owes (c : Thread nD τ) 0 W))

/-- What it leaves. -/
def bodyOut : sProp 𝕄 :=
  iprop(owns (Val := Elt F) (c : Thread nD τ) m1 fullShare v ∗ owns (Val := Elt F) (c : Thread nD τ) m2 fullShare x
    ∗ owns (Val := Elt F) (c : Thread nD τ) m4 fullShare (outBlk x v X n)
    ∗ idle c X (here i) ∗ leaving c X i (nextC (i 0).val n (cnt v 1024))
    ∗ (∃ f : S1.Idx → BitVec 32, ⌜f (ix1 0) = BitVec.ofNat 32 (nextC (i 0).val n (cnt v 1024))⌝ ∗ (wordM.view.loc (c : Thread nD τ) ↦{fullShare} f))
    ∗ (∃ g : WinC F, winM.view.loc (c : Thread nD τ) ↦{fullShare} g) ∗ peP c X qW ∗ (∃ W, owes (c : Thread nD τ) 0 W))

/-- The part of it the output branches do not touch. -/
def rest : sProp 𝕄 :=
  iprop(owns (Val := Elt F) (c : Thread nD τ) m1 fullShare v ∗ owns (Val := Elt F) (c : Thread nD τ) m2 fullShare x
    ∗ idle c X (here i) ∗ leaving c X i (nextC (i 0).val n (cnt v 1024))
    ∗ (∃ f : S1.Idx → BitVec 32, ⌜f (ix1 0) = BitVec.ofNat 32 (nextC (i 0).val n (cnt v 1024))⌝ ∗ (wordM.view.loc (c : Thread nD τ) ↦{fullShare} f))
    ∗ peP c X qW ∗ (∃ W, owes (c : Thread nD τ) 0 W))

/-- The window filled, and the output block written once the number of table rows read is at most `j`. -/
def upTo (j : ℕ) : sProp 𝕄 :=
  iprop(rest c i m1 m2 X v x n ∗ (∃ g : WinC F, ⌜winOK X n (8 * (mx n (cnt v 1024) / 8 + 1)) g⌝ ∗ (winM.view.loc (c : Thread nD τ) ↦{fullShare} g))
    ∗ (∃ y, ⌜mx n (cnt v 1024) - mo n < j → y = outBlk x v X n⌝ ∗ owns (Val := Elt F) (c : Thread nD τ) m4 fullShare y))

/-- The head of the window landed, and nothing written yet. -/
def started : sProp 𝕄 :=
  iprop(rest c i m1 m2 X v x n ∗ (∃ g : WinC F, ⌜winOK X n 8 g⌝ ∗ (winM.view.loc (c : Thread nD τ) ↦{fullShare} g))
    ∗ (∃ y, owns (Val := Elt F) (c : Thread nD τ) m4 fullShare y))

variable {i X v x n}

/-- What the blending leaves, weakened to another bound. -/
theorem upTo_le {j j' : ℕ} (h : mx n (cnt v 1024) - mo n < j' → mx n (cnt v 1024) - mo n < j) :
    upTo c i m1 m2 m4 X v x n j ⊢ upTo c i m1 m2 m4 X v x n j' := by
  unfold upTo
  iintro ⟨HR, Hg, ⟨%y, %hy, Hy⟩⟩
  isplitl [HR]; · iexact HR
  isplitl [Hg]; · iexact Hg
  iexists y
  isplitr
  · ipureintro; exact fun h' => hy (h h')
  iexact Hy

/-- The body at a point: from the state that it finds to the state and the block that it leaves. -/
theorem wp_body (hle : n ≤ 1024 * ((i 0).val % 8)) :
    bodyIn c i m1 m2 m4 X v x n ⊢ WP c (cc0__body i m1 w1 m2 w2 peM w3 m4 w4 bufM w5 winM w6 cc0_scratch2 wordM w8)
      (fun _ => bodyOut c i m1 m2 m4 X v x n) := by
  rw [cc0__body_eq_skeleton]
  unfold cc0__body_skel bodyIn
  iintro ⟨H1, H2, H4, HA, HI, ⟨%f, %hf, Hw⟩, ⟨%g, Hg⟩, Hp, ⟨%W, HW⟩⟩
  have h : Known i (cntW (F := F) v) (f (ix1 0)) n (cnt v 1024) := ⟨hf, pay13_eq (F := F) v, hle, cnt_le v 1024⟩
  iapply (wp_bindE c)
  iapply (wp_part2 c i m1 w1 m2 w2 w3 m4 w4 w5 w6 w8 h) $$ [H1 Hw]
  · isplitl [H1]; · iexact H1
    iexact Hw
  iintro %r %hr ⟨H1, Hw⟩
  obtain ⟨a, b, d, rfl⟩ := hr
  iapply (wp_bindE c)
  iapply (wp_part3 c i m1 w1 m2 w2 w3 m4 w4 w5 w6 w8 h (chk1_of h)) $$ HA
  iintro %r %hr HF
  obtain ⟨a', b', d', rfl⟩ := hr
  iapply (wp_bindE c)
  iapply (wp_part4 c i m1 w1 m2 w2 w3 m4 w4 w5 w6 w8 h (chk1_of h)) $$ [Hw Hg HF HI HW]
  · isplitl [Hw]; · iexact Hw
    isplitl [Hg]; · iexact Hg
    isplitl [HF]; · iexact HF
    isplitl [HI]; · iexact HI
    iexact HW
  iintro %u %f' %g' %hf' %hg' ⟨Hw, Hg, HI, HL, HW⟩
  iapply (wp_ite c (P := started c i m1 m2 m4 X v x n) (R := upTo c i m1 m2 m4 X v x n 0) (fun _ => rfl) ?_ ?_ ?_) $$ [H1 H2 H4 Hw Hg HI HL Hp HW]
  · intro h3
    have h3' : ¬0 < mx n (cnt v 1024) / 8 := fun e => h3 ((cond3_iff h).2 e)
    unfold started upTo
    iintro ⟨HR, ⟨%g, %hg, Hg⟩, ⟨%y, Hy⟩⟩
    isplitl [HR]; · iexact HR
    isplitl [Hg]
    · iexists g
      isplitr
      · ipureintro
        exact winOK_le hg (by omega)
      iexact Hg
    iexists y
    isplitr
    · ipureintro; exact fun h => absurd h (Nat.not_lt_zero _)
    iexact Hy
  · intro h3 T hK eT
    unfold started rest idle
    iintro ⟨⟨H1, H2, ⟨Hv, Hs, Hq⟩, HL, Hw, Hp, ⟨%W, HW⟩⟩, ⟨%g, %hg, Hg⟩, Hy⟩
    iapply (wp_bindE c)
    iapply (wp_t1 c i m1 w1 m2 w2 w3 m4 w4 w5 w6 w8 h (chk1_of h) h3 hg) $$ [Hv Hg Hp HW]
    · isplitl [Hv]; · iexact Hv
      isplitl [Hg]; · iexact Hg
      isplitl [Hp]; · iexact Hp
      iexact HW
    iintro %a %g' %hg' ⟨Hv, Hg, Hp, HW⟩
    iapply (wp_bindE c)
    iapply (wp_loop0 c (t2_trips h))
    rw [← eT]
    iapply hK
    unfold upTo rest idle
    isplitl [H1 H2 Hv Hs Hq HL Hw Hp HW]
    · isplitl [H1]; · iexact H1
      isplitl [H2]; · iexact H2
      isplitl [Hv Hs Hq]
      · isplitl [Hv]; · iexact Hv
        isplitl [Hs]; · iexact Hs
        iexact Hq
      isplitl [HL]; · iexact HL
      isplitl [Hw]; · iexact Hw
      isplitl [Hp]; · iexact Hp
      iexact HW
    isplitl [Hg]
    · iexists g'
      isplitr
      · ipureintro; exact hg'
      iexact Hg
    icases Hy with ⟨%y, Hy⟩
    iexists y
    isplitr
    · ipureintro; exact fun h => absurd h (Nat.not_lt_zero _)
    iexact Hy
  · have hlc := h.lc'
    have hln := h.ln
    have hmm := mo_le_mx (c := n) (n := cnt v 1024)
    have hbl := base_le n
    have hrow : base n + mo n = min (n + 0) 8191 := by unfold mo; omega
    iintro H
    iapply (wp_bindE c)
    unfold upTo rest
    icases H with ⟨⟨H1, H2, H⟩, Hy⟩
    iapply (wp_loadAll c zero3) $$ H2
    iintro H2
    iapply (wp_ite c (P := upTo c i m1 m2 m4 X v x n 0) (R := upTo c i m1 m2 m4 X v x n 1) (fun _ => rfl) ?_ ?_ ?_) $$ [H1 H2 H Hy]
    · intro h4
      have h4' : ¬mx n (cnt v 1024) - mo n = 0 := fun e => h4 ((cond4_iff h).2 e)
      exact upTo_le c m1 m2 m4 (by omega)
    · intro h4 T hK eT
      have h4' := (cond4_iff h).1 h4
      unfold upTo
      iintro ⟨HR, ⟨%g, %hg, Hg⟩, ⟨%y, -, Hy⟩⟩
      iapply (wp_bindE c)
      iapply (wp_loadPart c (m := winM)) $$ Hg
      iintro Hg
      iapply (wp_bindE c)
      iapply (wp_loadAll c zero3) $$ Hy
      iintro Hy
      iapply (wp_bindE c)
      iapply (wp_storeAll c zero3) $$ Hy
      iintro Hy
      rw [← eT]
      iapply hK
      unfold upTo
      isplitl [HR]; · iexact HR
      isplitl [Hg]
      · iexists g
        isplitr
        · ipureintro; exact hg
        iexact Hg
      iexists _
      isplitr
      swap; · iexact Hy
      ipureintro
      intro _
      exact out_zero x v X n (by unfold mx mo at h4'; omega) _
        (load_row hg (off15_eq h) (k0_off15_inb i _ _ (chk1_of h) h4) (by omega) hrow)
    · iintro H
      iapply (wp_ite c (P := upTo c i m1 m2 m4 X v x n 1) (R := upTo c i m1 m2 m4 X v x n 2) (fun _ => rfl) ?_ ?_ ?_) $$ H
      · intro h5
        have h5' : ¬mx n (cnt v 1024) - mo n = 1 := fun e => h5 ((cond5_iff h).2 e)
        exact upTo_le c m1 m2 m4 (by omega)
      · intro h5 T hK eT
        have h5' := (cond5_iff h).1 h5
        unfold upTo
        iintro ⟨HR, ⟨%g, %hg, Hg⟩, ⟨%y, -, Hy⟩⟩
        iapply (wp_bindE c)
        iapply (wp_loadPart c (m := winM)) $$ Hg
        iintro Hg
        iapply (wp_bindE c)
        iapply (wp_loadPart c (m := winM)) $$ Hg
        iintro Hg
        iapply (wp_bindE c)
        iapply (wp_loadAll c zero3) $$ Hy
        iintro Hy
        iapply (wp_bindE c)
        iapply (wp_storeAll c zero3) $$ Hy
        iintro Hy
        rw [← eT]
        iapply hK
        unfold upTo
        isplitl [HR]; · iexact HR
        isplitl [Hg]
        · iexists g
          isplitr
          · ipureintro; exact hg
          iexact Hg
        iexists _
        isplitr
        swap; · iexact Hy
        ipureintro
        intro _
        exact out_one x v X n (by unfold mx mo at h5'; omega) _ _
          (load_row hg (off16_eq h) (k0_off16_inb i _ _ (chk1_of h) h5) (by omega) hrow)
          (load_row hg (off17_eq h) (k0_off17_inb i _ _ (chk1_of h) h5) (by omega) (by unfold mx mo at *; omega))
      · iintro H
        iapply (wp_ite c (P := upTo c i m1 m2 m4 X v x n 2) (R := bodyOut c i m1 m2 m4 X v x n) (fun _ => rfl) ?_ ?_ ?_) $$ H
        · intro h6
          have h6' : ¬1 < mx n (cnt v 1024) - mo n := fun e => h6 ((cond6_iff h).2 e)
          unfold upTo rest bodyOut
          iintro ⟨⟨H1, H2, HI, HL, Hw, Hp, HW⟩, ⟨%g, -, Hg⟩, ⟨%y, %hy, Hy⟩⟩
          obtain rfl := hy (by omega)
          isplitl [H1]; · iexact H1
          isplitl [H2]; · iexact H2
          isplitl [Hy]; · iexact Hy
          isplitl [HI]; · iexact HI
          isplitl [HL]; · iexact HL
          isplitl [Hw]; · iexact Hw
          isplitl [Hg]
          · iexists g; iexact Hg
          isplitl [Hp]; · iexact Hp
          iexact HW
        · intro h6 T hK eT
          unfold upTo rest
          iintro ⟨⟨H1, H2, HI, HL, Hw, Hp, HW⟩, ⟨%g, %hg, Hg⟩, ⟨%y, -, Hy⟩⟩
          rw [k0_part1_eq_skeleton]
          unfold k0_part1_skel
          iapply (wp_bindE c)
          iapply (wp_pureE c)
          iapply (wp_bindE c)
          rw [v30_eq h]
          iapply (wp_t3 c i m1 w1 m2 w2 w3 m4 w4 w5 w6 w8 h (chk1_of h) h6)
          iintro %b %hb
          iapply (wp_bindE c)
          iapply (wp_loop0 c (t4_trips h.hn h.ln))
          iapply (wp_bindE c)
          iapply (wp_loadPart c (m := winM)) $$ Hg
          iintro Hg
          iapply (wp_bindE c)
          iapply (wp_loadAll c zero3) $$ Hy
          iintro Hy
          iapply (wp_bindE c)
          iapply (wp_storeAll c zero3) $$ Hy
          iintro Hy
          have e0 := blend_zero x v X n hlc _ (load_row hg (off18_eq h) (k0_off18_inb i _ _ (chk1_of h) h6) (p := 0) (by omega) hrow)
          rw [e0]
          iapply (wp_bindE c)
          iapply (wp_t5 c i m1 w1 m2 w2 w3 m4 w4 w5 w6 w8 h (chk1_of h) h6 hg (v27_eq h) rfl hb) $$ [Hg Hy]
          · isplitl [Hg]; · iexact Hg
            iexact Hy
          iintro %_ ⟨Hg, Hy⟩
          iapply (wp_bindE c)
          iapply (wp_loop0 c (t6_trips h))
          rw [← eT]
          iapply hK
          unfold bodyOut
          isplitl [H1]; · iexact H1
          isplitl [H2]; · iexact H2
          isplitl [Hy]; · iexact Hy
          isplitl [HI]; · iexact HI
          isplitl [HL]; · iexact HL
          isplitl [Hw]; · iexact Hw
          isplitl [Hg]
          · iexists g; iexact Hg
          isplitl [Hp]; · iexact Hp
          iexact HW
        · iintro H
          iapply (wp_pureE c)
          iexact H
    unfold upTo rest
    isplitl [H1 H2 H]
    · isplitl [H1]; · iexact H1
      isplitl [H2]; · iexact H2
      iexact H
    iexact Hy
  unfold started rest
  isplitl [H1 H2 HI HL Hw Hp HW]
  · isplitl [H1]; · iexact H1
    isplitl [H2]; · iexact H2
    isplitl [HI]; · iexact HI
    isplitl [HL]; · iexact HL
    isplitl [Hw]
    · iexists f'
      isplitr
      · ipureintro; exact hf'.trans (nextW_eq h)
      iexact Hw
    isplitl [Hp]; · iexact Hp
    iexact HW
  isplitl [Hg]
  · iexists g'
    isplitr
    · ipureintro; exact hg'
    iexact Hg
  iexact H4

end

end Cert.KernelIdeal.Hand

end
-- ==== Proof.KernelIdeal.State.lean ====
module

public import proofs.«01_k».proof.Proof.KernelIdeal.Body

@[expose] public section

set_option maxRecDepth 16384

/-! What is held between two points: the carried count, the prefetch slots, the window and the table. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Words Idealize.ShloMosaic.ValueIdx

variable {F : FTy → Type} [FloatOps F]

local notation "𝕄" => MT nD τ sig Unit (Elt F) ℕ (Pipeline.UD sig nD τ) ℕ

/-! ### The carry -/

/-- The carry in force at point `k` when block `j`'s tokens are `B j`. -/
def carryOf (B : ℕ → S1x1x1024.Idx → BitVec 32) : ℕ → ℕ
  | 0 => 0
  | k + 1 => nextC k (carryOf B k) (cnt (B k) 1024)

/-- It counts at most the tokens before the block in its row. -/
theorem carryOf_le (B : ℕ → S1x1x1024.Idx → BitVec 32) : ∀ k, carryOf B k ≤ 1024 * (k % 8)
  | 0 => Nat.zero_le _
  | k + 1 => by
    have h := carryOf_le B k
    have h' := cnt_le (B k) 1024
    unfold carryOf nextC
    split <;> omega

/-- At the first point the carry in force is zero whatever is stored. -/
theorem carryW_first {i : grid0.Coords} (h : (i 0).val = 0) (w : BitVec 32) : carryW i w = 0#32 := by
  unfold carryW
  rw [h]
  rfl
/-- At any other point it is the stored word. -/
theorem carryW_later {i : grid0.Coords} (h : (i 0).val ≠ 0) (w : BitVec 32) : carryW i w = w := by
  have := i_lt i
  have hz := w_eq (a := (i 0).val) (b := 0) (by omega) (by omega)
  unfold carryW
  exact select_not (fun e => h (hz.mp e)) _ _

/-! ### The buffers in pieces -/

variable (c : Dev nD)

/-- The two slots are disjoint and are the whole prefetch buffer. -/
theorem slot_set (s : Fin 2) : (slot s).view.set = (Rect.unit (s := S16x1024) ![s.val * 8, 0] S8x1024.size (slot_inb s)).set :=
  View.set_slice_whole cc0_scratch0 _

/-- The rows of a slot. -/
theorem slot_mem (s : Fin 2) (j : S16x1024.Idx) : j ∈ (slot s).view.set ↔ s.val * 8 ≤ (j 0).val ∧ (j 0).val < s.val * 8 + 8 := by
  rw [slot_set, Rect.mem_set_unit]
  constructor
  · intro h; exact h 0
  · intro h a
    match a with
    | ⟨0, _⟩ => exact h
    | ⟨1, _⟩ => exact ⟨Nat.zero_le _, by have := (j 1).isLt; exact (Nat.zero_add 1024).symm ▸ this⟩

/-- The buffer is its two slots. -/
theorem slot_compl : (Finset.univ : Finset S16x1024.Idx) \ (slot 0).view.set = (slot 1).view.set := by
  ext j
  rw [Finset.mem_sdiff, slot_mem, slot_mem]
  have h : (j 0).val < 16 := (j 0).isLt
  have e0 : ((0 : Fin 2).val) = 0 := rfl
  have e1 : ((1 : Fin 2).val) = 1 := rfl
  rw [e0, e1]
  constructor
  · rintro ⟨-, h'⟩; omega
  · intro h'; exact ⟨Finset.mem_univ _, by omega⟩

/-- The prefetch buffer whole is its two slots. -/
theorem buf_split (f : Buf (Elt F) (bufM.view.loc (c : Thread nD τ))) :
    (bufM.view.loc (c : Thread nD τ) ↦{fullShare} f : sProp 𝕄) ⊢ iprop(slotP c 0 f ∗ slotP c 1 f) := by
  refine (pointsTo_split_subset (ℓ := bufM.view.loc (c : Thread nD τ)) (I := (slot 0).view.set) (Finset.subset_univ _)).1.trans ?_
  rw [slot_compl]

/-- The two slots make the buffer. -/
theorem buf_join (f g : Buf (Elt F) (bufM.view.loc (c : Thread nD τ))) :
    (iprop(slotP c 0 f ∗ slotP c 1 g) : sProp 𝕄) ⊢ iprop(∃ h, bufM.view.loc (c : Thread nD τ) ↦{fullShare} h) := by
  have hd : Disjoint ((slot 0).view.set : Finset S16x1024.Idx) (slot 1).view.set := by
    rw [← slot_compl]; exact Finset.disjoint_sdiff
  have hu : ((slot 0).view.set : Finset S16x1024.Idx) ∪ (slot 1).view.set = Finset.univ := by
    rw [← slot_compl]; exact Finset.union_sdiff_of_subset (Finset.subset_univ _)
  refine (pointsTo_join (ℓ := bufM.view.loc (c : Thread nD τ)) hd).trans ?_
  rw [hu]
  iintro H
  iexists _
  iexact H

/-- The table whole is its three shares. -/
theorem pe_split (X : PeC F) :
    (peM.view.loc (c : Thread nD τ) ↦{fullShare} X : sProp 𝕄) ⊣⊢ iprop(peP c X qW ∗ peP c X (qS 0) ∗ peP c X (qS 1)) := by
  have e0 : qS 0 = fullShare.right.left := if_pos rfl
  have e1 : qS 1 = fullShare.right.right := if_neg (by decide)
  rw [e0, e1]
  constructor
  · iintro H
    ihave H := (pointsTo_share (ℓ := peM.view.loc (c : Thread nD τ)) (PosShare.mem_left_op_right fullShare)).1 $$ H
    icases H with ⟨HW, H⟩
    isplitl [HW]; · iexact HW
    iapply (pointsTo_share (ℓ := peM.view.loc (c : Thread nD τ)) (PosShare.mem_left_op_right fullShare.right)).1
    iexact H
  · iintro ⟨HW, H⟩
    iapply (pointsTo_share (ℓ := peM.view.loc (c : Thread nD τ)) (PosShare.mem_left_op_right fullShare)).2
    isplitl [HW]; · iexact HW
    iapply (pointsTo_share (ℓ := peM.view.loc (c : Thread nD τ)) (PosShare.mem_left_op_right fullShare.right)).2
    iexact H

/-! ### The state -/

/-- The slot point `p` reads from. -/
def slotAt (p : ℕ) : Fin 2 := ⟨p % 2, by omega⟩

/-- Every second point uses the same slot. -/
theorem slotAt_two (p : ℕ) : slotAt (p + 1 + 1) = slotAt p := Fin.ext (by show (p + 1 + 1) % 2 = p % 2; omega)

/-- Held before point `p` with carry `n`: the next slot filling (but for the ends), the other idle, the word holding the
    carry once a point has run, the window at anything, the table's share for it. -/
def state (X : PeC F) (p n : ℕ) : sProp 𝕄 :=
  iprop((if 0 < p ∧ p < 32 then flying c X (slotAt p) n else idle c X (slotAt p)) ∗ idle c X (slotAt (p + 1))
    ∗ (∃ f : S1.Idx → BitVec 32, ⌜0 < p → f (ix1 0) = BitVec.ofNat 32 n⌝ ∗ (wordM.view.loc (c : Thread nD τ) ↦{fullShare} f))
    ∗ (∃ g : WinC F, winM.view.loc (c : Thread nD τ) ↦{fullShare} g) ∗ peP c X qW)

/-- What a point finds, from the state before it. -/
theorem state_arriving {X : PeC F} {i : grid0.Coords} {n : ℕ} (h0 : (i 0).val = 0 → n = 0) :
    state c X (i 0).val n ⊢ iprop(arriving c X i n ∗ idle c X (next i)
      ∗ (∃ f : S1.Idx → BitVec 32, ⌜carryW i (f (ix1 0)) = BitVec.ofNat 32 n⌝ ∗ (wordM.view.loc (c : Thread nD τ) ↦{fullShare} f))
      ∗ (∃ g : WinC F, winM.view.loc (c : Thread nD τ) ↦{fullShare} g) ∗ peP c X qW) := by
  have hi := i_lt i
  have e : (if 0 < (i 0).val ∧ (i 0).val < 32 then flying c X (slotAt (i 0).val) n else idle c X (slotAt (i 0).val)) = arriving c X i n := by
    unfold arriving
    by_cases h : (i 0).val = 0
    · rw [if_pos h, if_neg (by omega)]; rfl
    · rw [if_neg h, if_pos (by omega)]; rfl
  unfold state
  rw [e]
  iintro ⟨HA, HI, ⟨%f, %hf, Hw⟩, Hg, Hp⟩
  isplitl [HA]; · iexact HA
  isplitl [HI]; · iexact HI
  isplitl [Hw]
  · iexists f
    isplitr
    · ipureintro
      by_cases h : (i 0).val = 0
      · rw [carryW_first h, h0 h]
      · rw [carryW_later h, hf (by omega)]
    · iexact Hw
  isplitl [Hg]; · iexact Hg
  iexact Hp

/-- The state after it, from what it leaves. -/
theorem leaving_state {X : PeC F} {i : grid0.Coords} {n : ℕ} :
    iprop(idle c X (here i) ∗ leaving c X i n
      ∗ (∃ f : S1.Idx → BitVec 32, ⌜f (ix1 0) = BitVec.ofNat 32 n⌝ ∗ (wordM.view.loc (c : Thread nD τ) ↦{fullShare} f))
      ∗ (∃ g : WinC F, winM.view.loc (c : Thread nD τ) ↦{fullShare} g) ∗ peP c X qW) ⊢ state c X ((i 0).val + 1) n := by
  have e : (if 0 < (i 0).val + 1 ∧ (i 0).val + 1 < 32 then flying c X (slotAt ((i 0).val + 1)) n else idle c X (slotAt ((i 0).val + 1))) = leaving c X i n := by
    unfold leaving
    by_cases h : (i 0).val + 1 < 32
    · rw [if_pos h, if_pos ⟨by omega, h⟩]; rfl
    · rw [if_neg h, if_neg (by omega)]; rfl
  unfold state
  rw [e, slotAt_two]
  iintro ⟨HI, HL, ⟨%f, %hf, Hw⟩, Hg, Hp⟩
  isplitl [HL]; · iexact HL
  isplitl [HI]; · iexact HI
  isplitl [Hw]
  · iexists f
    isplitr
    · ipureintro; exact fun _ => hf
    · iexact Hw
  isplitl [Hg]; · iexact Hg
  iexact Hp

/-! ### The state at the ends -/

/-- The scratch buffers at anything, both counters at zero and the table whole. -/
def ends (X : PeC F) : sProp 𝕄 :=
  iprop((∃ f, bufM.view.loc (c : Thread nD τ) ↦{fullShare} f) ∗ (∃ g : WinC F, winM.view.loc (c : Thread nD τ) ↦{fullShare} g)
    ∗ (∃ f : S1.Idx → BitVec 32, wordM.view.loc (c : Thread nD τ) ↦{fullShare} f)
    ∗ semVal ((c : Thread nD τ), SemLoc.dma (cell 0)) 0 ∗ semVal ((c : Thread nD τ), SemLoc.dma (cell 1)) 0
    ∗ (peM.view.loc (c : Thread nD τ) ↦{fullShare} X))

/-- What the launch holds is the state before the first point. -/
theorem ends_state {X : PeC F} (n : ℕ) : ends c X ⊢ state c X 0 n := by
  unfold ends state
  rw [if_neg (by omega), show slotAt 0 = 0 from rfl, show slotAt (0 + 1) = 1 from rfl]
  iintro ⟨⟨%f, Hf⟩, Hg, ⟨%w, Hw⟩, H0, H1, HX⟩
  ihave Hf := (buf_split c f) $$ Hf
  icases Hf with ⟨Ha, Hb⟩
  ihave HX := (pe_split c X).1 $$ HX
  icases HX with ⟨HX, HX0, HX1⟩
  unfold idle
  isplitl [H0 Ha HX0]
  · isplitl [H0]; · iexact H0
    isplitl [Ha]; · iexists f; iexact Ha
    iexact HX0
  isplitl [H1 Hb HX1]
  · isplitl [H1]; · iexact H1
    isplitl [Hb]; · iexists f; iexact Hb
    iexact HX1
  isplitl [Hw]
  · iexists w
    isplitr
    · ipureintro; exact fun h => absurd h (Nat.lt_irrefl 0)
    · iexact Hw
  isplitl [Hg]; · iexact Hg
  iexact HX

/-- The state after the last point is what the launch holds. -/
theorem state_ends {X : PeC F} (n : ℕ) : state c X 32 n ⊢ ends c X := by
  unfold ends state
  rw [if_neg (by omega), show slotAt 32 = 0 from rfl, show slotAt (32 + 1) = 1 from rfl]
  unfold idle
  iintro ⟨⟨H0, ⟨%a, Ha⟩, HX0⟩, ⟨H1, ⟨%b, Hb⟩, HX1⟩, ⟨%w, -, Hw⟩, Hg, HX⟩
  isplitl [Ha Hb]
  · iapply (buf_join c a b)
    isplitl [Ha]; · iexact Ha
    iexact Hb
  isplitl [Hg]; · iexact Hg
  isplitl [Hw]; · iexists w; iexact Hw
  isplitl [H0]; · iexact H0
  isplitl [H1]; · iexact H1
  iapply (pe_split c X).2
  isplitl [HX]; · iexact HX
  isplitl [HX0]; · iexact HX0
  iexact HX1

end Cert.KernelIdeal.Hand
end
-- ==== Proof.KernelIdeal.Frame.lean ====
module

public import proofs.«01_k».proof.Proof.KernelIdeal.State

@[expose] public section

set_option maxRecDepth 16384

/-! The launch: the body's obligation at every point, the run, and the frame. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Words Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### The launch's data -/

/-- The two semaphore cells of the prefetch. -/
abbrev osem0 : Fin 2 → SemLoc sig := fun j => (![SemLoc.dma 6, SemLoc.dma 7] : Fin 2 → SemLoc sig) j
theorem ownSemFacts0 : Pipeline.OwnSemFacts spec0 osem0 := by decide
/-- The one operand the copies read where it lies. -/
def H0 : Finset (Ref sig .tc) := {main_v2}
theorem H0_sub : H0 ⊆ Pipeline.restRefs sig spec0 := by decide

/-- The two semaphore cells, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell 0)) 0 ∗ semVal ((c : Thread nD τ), SemLoc.dma (cell 1)) 0) := by
  rw [Pipeline.ownSems0_eq_of_list c osem0 [0, 1] (by decide) (by decide)]; rfl

/-- The table as the kernel finds it. -/
abbrev pe (c : Dev nD) : PeC F := Gen.V m c main_v2
/-- Block `k`'s tokens. -/
def tok (c : Dev nD) (k : ℕ) : S1x1x1024.Idx → BitVec 32 := if h : k < cfg0.N then iblk m c 0 ⟨k, h⟩ else fun _ => 0
/-- The carry at point `k`. -/
def carry (c : Dev nD) (k : ℕ) : ℕ := carryOf (tok m c) k

/-- The token block of a point. -/
theorem tok_at (c : Dev nD) (t : Fin cfg0.N) : tok m c t.val = iblk m c 0 t := dif_pos t.isLt

/-- What the launch holds beside its windows, one by one. -/
theorem PhiD_eq (c : Dev nD) :
    (Pipeline.ΦD osem0 spec0 H0 (Gen.V m) c : sProp 𝕄)
      = iprop(iprop((∃ f, bufM.view.loc (c : Thread nD τ) ↦{fullShare} f) ∗ (∃ g : WinC F, winM.view.loc (c : Thread nD τ) ↦{fullShare} g)
            ∗ (∃ f : S1.Idx → BitVec 32, wordM.view.loc (c : Thread nD τ) ↦{fullShare} f))
          ∗ (∃ r, prngReg c r)
          ∗ iprop(semVal ((c : Thread nD τ), SemLoc.dma (cell 0)) 0 ∗ semVal ((c : Thread nD τ), SemLoc.dma (cell 1)) 0)
          ∗ (peM.view.loc (c : Thread nD τ) ↦{fullShare} pe m c)) := by
  rw [Pipeline.ΦD_eq, scopedRest0_eq, ownSems00_eq, BI.bigSep_eq_bigSepL_of_eq [main_v2] (by decide) (by decide)]; rfl

/-- The proof data on core `c`: the arrays as the region finds them, the inputs left in place, the output block. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => iblk m c 1 t
    | ⟨2, _⟩ => outBlk (F := F) (iblk m c 1 t) (iblk m c 0 t) (pe m c) (carry m c t.val)
  Φ p := iprop((∃ r, prngReg c r) ∗ state c (pe m c) p.val (carry m c p.val))
  q _ := fullShare
  owed _ := 0

/-- The windows' arrays are those that the launch finds. -/
theorem A_eq (c : Dev nD) (w : Fin cfg0.W) : (dats m 0 c).A w = Gen.V m c (Pipeline.arrRef spec0 w) := by
  dsimp only [dats]
/-- The body leaves the token block. -/
theorem after0_0 (c : Dev nD) (t : Fin cfg0.N) : (dats m 0 c).after 0 t = iblk m c 0 t := by dsimp only [dats]
/-- The body leaves the input block. -/
theorem after0_1 (c : Dev nD) (t : Fin cfg0.N) : (dats m 0 c).after 1 t = iblk m c 1 t := by dsimp only [dats]
/-- The body leaves the sum in the result block. -/
theorem after0_2 (c : Dev nD) (t : Fin cfg0.N) : (dats m 0 c).after 2 t = outBlk (F := F) (iblk m c 1 t) (iblk m c 0 t) (pe m c) (carry m c t.val) := by
  dsimp only [dats]

/-- The body finds the token block. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- The body finds the input block. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- The grid's one coordinate is the point's number. -/
theorem coords_val (t : Fin cfg0.N) : (grid0.coords t 0).val = t.val := by
  have h := Pipeline.Grid.coords_val (G := grid0) t 0 (S := 1) (B := 32) (by decide) rfl
  have ht : t.val < 32 := lt_of_lt_of_eq t.isLt N_0
  rw [h]
  omega

/-! ### The body at a point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t))

/-- The body meets its obligation at every point. -/
theorem sound_body (c : Dev nD) (t : Fin cfg0.N) :
    bodyPre m c t ⊢ WP c (bodyAt0 t) (fun _ => bodyPost m c t) := by
  have hi := coords_val t
  have h0 : (grid0.coords t 0).val = 0 → carry m c t.val = 0 := fun h => by
    rw [← hi, h]; rfl
  have hle : carry m c t.val ≤ 1024 * ((grid0.coords t 0).val % 8) := by
    rw [hi]; exact carryOf_le _ _
  have hs : carry m c (t.val + 1) = nextC (grid0.coords t 0).val (carry m c t.val) (cnt (iblk m c 0 t) 1024) := by
    rw [hi, ← tok_at]; rfl
  have eIn : (dats m 0 c).Φ t.castSucc = iprop((∃ r, prngReg c r) ∗ state c (pe m c) (grid0.coords t 0).val (carry m c t.val)) := by
    rw [hi]; rfl
  have eOut : (dats m 0 c).Φ t.succ = iprop((∃ r, prngReg c r)
      ∗ state c (pe m c) ((grid0.coords t 0).val + 1) (nextC (grid0.coords t 0).val (carry m c t.val) (cnt (iblk m c 0 t) 1024))) := by
    rw [← hs, hi]; rfl
  unfold bodyPre bodyPost
  rw [eIn, eOut, after0_0, after0_1, after0_2]
  unfold Dat.owesAt Pipeline.owesWithin
  rw [show (dats m 0 c).owed t.castSucc = 0 from rfl, show (dats m 0 c).owed t.succ = 0 from rfl]
  iintro ⟨⟨Hr, HS⟩, ⟨%W, -, HW⟩, ⟨%d0, H0⟩, ⟨%d1, H1⟩, ⟨%d2, H2⟩⟩
  rw [before0_0, before0_1]
  ihave HS := (state_arriving c h0) $$ HS
  icases HS with ⟨HA, HI, Hw, Hg, Hp⟩
  iapply ((wp_body c (i := grid0.coords t) (win0_0.stage (cfg0.slots t 0)) (hstage0_0 ((cfg0.slots t 0).cast nbuf0_0))
      (win0_1.stage (cfg0.slots t 1)) (hstage0_1 ((cfg0.slots t 1).cast nbuf0_1)) (Memref.isWhole_whole _)
      (win0_2.stage (cfg0.slots t 2)) (hstage0_2 ((cfg0.slots t 2).cast nbuf0_2)) (Memref.isWhole_whole _) (Memref.isWhole_whole _)
      (Memref.isWhole_whole _) (X := pe m c) (v := iblk m c 0 t) (x := iblk m c 1 t) hle).trans (wp_wand _ _ _)) $$ [H0 H1 H2 HA HI Hw Hg Hp HW]
  · unfold bodyIn
    isplitl [H0]; · iexact H0
    isplitl [H1]; · iexact H1
    isplitl [H2]; · iexists _; iexact H2
    isplitl [HA]; · iexact HA
    isplitl [HI]; · iexact HI
    isplitl [Hw]; · iexact Hw
    isplitl [Hg]; · iexact Hg
    isplitl [Hp]; · iexact Hp
    iexists W; iexact HW
  iintro %a HO
  unfold bodyOut
  icases HO with ⟨H0, H1, H2, HI, HL, Hw, Hg, Hp, ⟨%W', HW⟩⟩
  isplitl [Hr HI HL Hw Hg Hp]
  · isplitl [Hr]; · iexact Hr
    iapply (leaving_state c)
    isplitl [HI]; · iexact HI
    isplitl [HL]; · iexact HL
    isplitl [Hw]; · iexact Hw
    isplitl [Hg]; · iexact Hg
    iexact Hp
  isplitl [HW]
  · iexists W'
    isplitr
    · ipureintro; exact fun _ _ => Or.inl trivial
    · iexact HW
  isplitl [H0]; · iexact H0
  isplitl [H1]; · iexact H1
  iexact H2

/-- The body called at a point is the kernel's at that point. -/
theorem defs₀_row (t : Fin cfg0.N) :
    defs₀ (F := F) .tc cfg0.body (cfg0.bodyArgs t (cfg0.slots t)) = bodyAt0 t := by
  unfold defs₀; rw [Defs.onTc_tc]

/-- At every point the body does what the launch's data say. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

/-- What the region finds is the state before the first point. -/
theorem enter (c : Dev nD) : Pipeline.ΦD osem0 spec0 H0 (Gen.V m) c ⊢ (dats m 0 c).Φ 0 := by
  rw [PhiD_eq, show (dats m 0 c).Φ 0 = iprop((∃ r, prngReg c r) ∗ state c (pe m c) 0 (carry m c 0)) from rfl]
  iintro ⟨⟨Hf, Hg, Hw⟩, Hr, ⟨H0, H1⟩, HX⟩
  isplitl [Hr]; · iexact Hr
  iapply (ends_state c (carry m c 0))
  unfold ends
  isplitl [Hf]; · iexact Hf
  isplitl [Hg]; · iexact Hg
  isplitl [Hw]; · iexact Hw
  isplitl [H0]; · iexact H0
  isplitl [H1]; · iexact H1
  iexact HX

/-- The state after the last point is what the region hands back. -/
theorem leave (c : Dev nD) : (dats m 0 c).Φ (Fin.last cfg0.N) ⊢ Pipeline.ΦD osem0 spec0 H0 (Gen.V m) c := by
  have e : (dats m 0 c).Φ (Fin.last cfg0.N) = iprop((∃ r, prngReg c r) ∗ state c (pe m c) 32 (carry m c 32)) := by
    rw [← N_0]; rfl
  rw [PhiD_eq, e]
  iintro ⟨Hr, HS⟩
  ihave HS := (state_ends c (carry m c 32)) $$ HS
  unfold ends
  icases HS with ⟨Hf, Hg, Hw, H0, H1, HX⟩
  isplitl [Hf Hg Hw]
  · isplitl [Hf]; · iexact Hf
    isplitl [Hg]; · iexact Hg
    iexact Hw
  isplitl [Hr]; · iexact Hr
  isplitl [H0 H1]
  · isplitl [H0]; · iexact H0
    iexact H1
  iexact HX

/-- The lines before the region, at this algebra. -/
theorem hmain (𝒱₀ : Variants) : Pipeline.HMainK (Ix := Unit) (Name := ℕ) (U := Pipeline.UD sig nD τ) (Lvl := ℕ) cfgs 0 defs₀ 𝒱₀ m (main (F := F))
      (fun c b => Gen.V0 m c (Proc.devRef .tc b)) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The line after the region does not touch the table. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  obtain rfl := Finset.mem_singleton.mp hb
  show Proc.devRef (τ := τ) .tc main_v2 ∉ ({Proc.devRef .tc main_v3, Proc.devRef .tc main_v4} : Finset (DevRef τ sig))
  rw [Finset.mem_insert, Finset.mem_singleton]
  rintro (h | h)
  · exact StableHlo.devRef_ne_of_ne (by decide) h
  · exact StableHlo.devRef_ne_of_ne (by decide) h

set_option backward.isDefEq.respectTransparency.types false in
/-- The kernel runs; every buffer the pipeline does not stage ends as the host lines leave it, the arrays hold what the
    blocks leave, and every counter is zero. -/
theorem run_main : θ_run defs (onTc (τ := τ) (main (F := F))) (s₀ m ρ)
    (fun r => Pipeline.FramePost cfgs (dats m) 0 (Pipeline.afterTail₀ cfgs (dats m) 0 (Gen.V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := Gen.V0 m) (opss := [hostOps1]) (hsub := tail_sub) (hfresh := sfx_fresh) (hkeep := sfx_keeps)
    (hmain := hmain m Variants.none) (hA := A_eq m) (hin := enter m) (hout := leave m)

/-- A buffer that is no array of the pipeline and not the last line's result ends as the region finds it. -/
theorem tail_other (c : Dev nD) (b : Ref sig .tc) (h4 : b ≠ main_v4) (hb : ∀ w, Pipeline.arrRef spec0 w ≠ b) :
    Pipeline.afterTail₀ cfgs (dats m) 0 (Gen.V0 m) [hostOps1] c b = Gen.V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h4)),
    Pipeline.withArrays_of_ne _ c (V0 m c) _ b hb]

/-- The arguments end as launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans ((tail_other m c main_arg0 (by decide) (by decide)).trans (V_main_arg0 m c)),
      ((h.1 c).2 main_arg1 (Pipeline.mem_restRefs_of main_arg1 (by decide) (by decide))).trans ((tail_other m c main_arg1 (by decide) (by decide)).trans (V_main_arg1 m c)),
      ((h.1 c).2 main_arg2 (Pipeline.mem_restRefs_of main_arg2 (by decide) (by decide))).trans ((tail_other m c main_arg2 (by decide) (by decide)).trans (V_main_arg2 m c))⟩, h.2⟩)
    (run_main m ρ)

/-- The result ends at what the last line leaves, the arguments as launched. -/
theorem run_value : θ_run defs (onTc (τ := τ) (main (F := F))) ⟨m, fun _ => 0, ρ⟩ (fun r => ∀ c : Dev nD,
      r.2.mem ((c.tc : Thread nD τ).loc main_v4) = Pipeline.afterTail₀ cfgs (dats m) 0 (Gen.V0 m) [hostOps1] c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).2 main_v4 (Pipeline.mem_restRefs_of main_v4 (by decide) (by decide)),
      ((h.1 c).2 main_arg0 (Pipeline.mem_restRefs_of main_arg0 (by decide) (by decide))).trans ((tail_other m c main_arg0 (by decide) (by decide)).trans (V_main_arg0 m c)),
      ((h.1 c).2 main_arg1 (Pipeline.mem_restRefs_of main_arg1 (by decide) (by decide))).trans ((tail_other m c main_arg1 (by decide) (by decide)).trans (V_main_arg1 m c)),
      ((h.1 c).2 main_arg2 (Pipeline.mem_restRefs_of main_arg2 (by decide) (by decide))).trans ((tail_other m c main_arg2 (by decide) (by decide)).trans (V_main_arg2 m c))⟩)
    (run_main m ρ)

end Cert.KernelIdeal.Hand
end
-- ==== Proof.Spec.lean ====
module

public import Idealize.ShloMosaic.Lib.ValueIdxCore
public import Idealize.ShloMosaic.Lib.Exec
public import Mathlib.Order.Interval.Finset.Nat
public import Mathlib.Data.Nat.Count

@[expose] public section

/-! The value both programs return: each entry of `x` plus the table's row whose number is how many separators the
    token row holds up to and including that position. -/

noncomputable section

namespace Cert.Spec

open Idealize.ShloMosaic Idealize.ShloMosaic.ValueIdx

/-- Position `j` of token row `b` holds the separator. -/
def sepAt (tok : (⟨2, ![4, 8192]⟩ : Shape).Idx → BitVec 32) (b : Fin 4) (j : ℕ) : Prop :=
  ∃ h : j < 8192, tok (ix2 b ⟨j, h⟩) = 102#32

instance (tok : (⟨2, ![4, 8192]⟩ : Shape).Idx → BitVec 32) (b : Fin 4) : DecidablePred (sepAt tok b) :=
  fun j => by unfold sepAt; infer_instance

/-- How many of the first `n` positions of token row `b` hold the separator. -/
def seps (tok : (⟨2, ![4, 8192]⟩ : Shape).Idx → BitVec 32) (b : Fin 4) (n : ℕ) : ℕ := Nat.count (sepAt tok b) n

/-- At most as many as there are positions. -/
theorem seps_le (tok : (⟨2, ![4, 8192]⟩ : Shape).Idx → BitVec 32) (b : Fin 4) (n : ℕ) : seps tok b n ≤ n :=
  Nat.count_le _

variable {F : FTy → Type} [FloatOps F]

/-- The result: row `b`, position `q`, column `l` holds `x` there plus the table's entry in that column of the row
    counted, the last row when the count runs past it. -/
def result (x : (⟨3, ![4, 8192, 1024]⟩ : Shape).Idx → F .f32) (tok : (⟨2, ![4, 8192]⟩ : Shape).Idx → BitVec 32)
    (pe : (⟨3, ![1, 8192, 1024]⟩ : Shape).Idx → F .f32) : (⟨3, ![4, 8192, 1024]⟩ : Shape).Idx → F .f32 := fun i =>
  FloatOps.addf (x i)
    (pe (ix3 (0 : Fin 1) (⟨min (seps tok (i 0) ((i 1).val + 1)) 8191, by omega⟩ : Fin 8192) (i 2 : Fin 1024)))

end Cert.Spec
-- ==== Proof.KernelIdeal.Value.lean ====
module

public import proofs.«01_k».proof.Proof.KernelIdeal.Frame
public import proofs.«01_k».proof.Proof.Spec
public import Idealize.ShloMosaic.Lib.Pipeline.ValueKit.Geometry

@[expose] public section

set_option maxRecDepth 16384

/-! The kernel's result is the value stated in Spec: the blocks read at coordinates, the carry as a count, the array from its blocks. -/

noncomputable section

namespace Cert.KernelIdeal.Hand

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal.Gen Cert.Words Cert.Spec Idealize.ShloMosaic.ValueIdx

variable {F : FTy → Type} [FloatOps F]
variable (m : (ℓ : Loc nD τ sig) → Buf (Elt F) ℓ) (ρ : Dev nD → PrngReg)

/-- The three arguments. -/
abbrev xA (c : Dev nD) : S4x8192x1024.Idx → F .f32 := m ((c : Thread nD τ).loc main_arg0)
abbrev tokA (c : Dev nD) : S4x8192.Idx → BitVec 32 := m ((c : Thread nD τ).loc main_arg1)
abbrev peA (c : Dev nD) : S1x8192x1024.Idx → F .f32 := m ((c : Thread nD τ).loc main_arg2)

/-! ### The reshaped arguments -/

theorem V_tok (c : Dev nD) : Gen.V m c main_v0 = shapeCast S32x1x1024 (tokA m c) shapeCasts_S4x8192_S32x1x1024 := by
  show StableHlo.after _ _ (Proc.devRef .tc main_v0) = _
  simp only [List.flatten_cons, List.flatten_nil, List.append_nil, hostOps0]
  after_results_simp
  rfl

/-- The input's blocks are its reshape. -/
theorem V_x (c : Dev nD) : Gen.V m c main_v1 = shapeCast S32x1024x1024 (xA m c) shapeCasts_S4x8192x1024_S32x1024x1024 := by
  show StableHlo.after _ _ (Proc.devRef .tc main_v1) = _
  simp only [List.flatten_cons, List.flatten_nil, List.append_nil, hostOps0]
  after_results_simp
  rfl

/-- The table is its reshape. -/
theorem V_pe (c : Dev nD) : Gen.V m c main_v2 = shapeCast S8192x1024 (peA m c) shapeCasts_S1x8192x1024_S8192x1024 := by
  show StableHlo.after _ _ (Proc.devRef .tc main_v2) = _
  simp only [List.flatten_cons, List.flatten_nil, List.append_nil, hostOps0]
  after_results_simp
  rfl

/-! ### Blocks at coordinates -/

theorem index0 : ∀ t : Fin cfg0.N, win0_0.index t = ![t.val, 0, 0] := (by decide +kernel : ∀ t : Fin grid0.N, _)
/-- Input block `t` is row `t`. -/
theorem index1 : ∀ t : Fin cfg0.N, win0_1.index t = ![t.val, 0, 0] := (by decide +kernel : ∀ t : Fin grid0.N, _)
/-- Result block `t` is row `t`. -/
theorem index2 : ∀ t : Fin cfg0.N, win0_2.index t = ![t.val, 0, 0] := (by decide +kernel : ∀ t : Fin grid0.N, _)

/-- The block of point `t` starts at array row `t`. -/
theorem emb0 (t : Fin cfg0.N) (j : Fin 1024) :
    ((cfg0.win 0).blk t).view.emb (ix3 (0 : Fin 1) (0 : Fin 1) j) = ix3 (t.cast N_0 : Fin 32) (0 : Fin 1) j := by
  funext a
  match a with
  | ⟨0, _⟩ => refine Fin.ext ?_; blk_simp [index0]; simp
  | ⟨1, _⟩ => refine Fin.ext ?_; blk_simp [index0]
  | ⟨2, _⟩ => refine Fin.ext ?_; blk_simp [index0]

/-- The input block of point `t`, at coordinates. -/
theorem emb1 (t : Fin cfg0.N) (s l : Fin 1024) :
    ((cfg0.win 1).blk t).view.emb (ix3 (0 : Fin 1) s l) = ix3 (t.cast N_0 : Fin 32) s l := by
  funext a
  match a with
  | ⟨0, _⟩ => refine Fin.ext ?_; blk_simp [index1]; simp
  | ⟨1, _⟩ => refine Fin.ext ?_; blk_simp [index1]
  | ⟨2, _⟩ => refine Fin.ext ?_; blk_simp [index1]

/-- The result block of point `t`, at coordinates. -/
theorem emb2 (t : Fin cfg0.N) (s l : Fin 1024) :
    ((cfg0.win 2).blk t).view.emb (ix3 (0 : Fin 1) s l) = ix3 (t.cast N_0 : Fin 32) s l := by
  funext a
  match a with
  | ⟨0, _⟩ => refine Fin.ext ?_; blk_simp [index2]; simp
  | ⟨1, _⟩ => refine Fin.ext ?_; blk_simp [index2]
  | ⟨2, _⟩ => refine Fin.ext ?_; blk_simp [index2]

/-- The token row and the position in it of lane `j` at point `t`. -/
abbrev rowOf (t : Fin 32) : Fin 4 := ⟨t.val / 8, by omega⟩
abbrev posOf (t : Fin 32) (j : Fin 1024) : Fin 8192 := ⟨1024 * (t.val % 8) + j.val, by omega⟩

/-- A token block holds its stretch of its token row. -/
theorem blk_tok (c : Dev nD) (t : Fin cfg0.N) (j : Fin 1024) :
    iblk m c 0 t (ix3 (0 : Fin 1) (0 : Fin 1) j) = tokA m c (ix2 (rowOf (t.cast N_0)) (posOf (t.cast N_0) j)) := by
  show Gen.V m c main_v0 (((cfg0.win 0).blk t).view.emb (ix3 (0 : Fin 1) (0 : Fin 1) j)) = _
  rw [V_tok, emb0]
  refine shapeCast_apply _ _ _ _ ?_
  simp only [Shape.rowMajor_val_three, Shape.rowMajor_val_two]
  show t.val / 8 * 8192 + (1024 * (t.val % 8) + j.val) = (t.val * 1 + 0) * 1024 + j.val
  omega

/-- An input block holds its rows. -/
theorem blk_x (c : Dev nD) (t : Fin cfg0.N) (s l : Fin 1024) :
    iblk m c 1 t (ix3 (0 : Fin 1) s l) = xA m c (ix3 (rowOf (t.cast N_0)) (posOf (t.cast N_0) s) l) := by
  show Gen.V m c main_v1 (((cfg0.win 1).blk t).view.emb (ix3 (0 : Fin 1) s l)) = _
  rw [V_x, emb1]
  refine shapeCast_apply _ _ _ _ ?_
  simp only [Shape.rowMajor_val_three, Shape.rowMajor_val_two]
  show (t.val / 8 * 8192 + (1024 * (t.val % 8) + s.val)) * 1024 + l.val = (t.val * 1024 + s.val) * 1024 + l.val
  omega

/-- The table's rows. -/
theorem pe_apply (c : Dev nD) (p : Fin 8192) (l : Fin 1024) : pe m c (ix2 p l) = peA m c (ix3 (0 : Fin 1) p l) := by
  show Gen.V m c main_v2 (ix2 p l) = _
  rw [V_pe]
  exact shapeCast_apply _ _ _ _ (by simp [Shape.rowMajor_val_three, Shape.rowMajor_val_two])

/-! ### The carry is a count -/

/-- A lane of a token block holds the separator where its token row does. -/
theorem sep_blk (c : Dev nD) (t : Fin cfg0.N) {j : ℕ} (hj : j < 1024) :
    isSep (iblk m c 0 t) j ↔ sepAt (tokA m c) (rowOf (t.cast N_0)) (1024 * (t.val % 8) + j) := by
  have e := blk_tok m c t ⟨j, hj⟩
  constructor
  · rintro ⟨h, q⟩
    exact ⟨by omega, e.symm.trans q⟩
  · rintro ⟨h, q⟩
    exact ⟨hj, e.trans q⟩

/-- Counting on: the first lanes of a token block carry the count of its row from the block's start. -/
theorem cnt_blk (c : Dev nD) (t : Fin cfg0.N) : ∀ n : ℕ, n ≤ 1024 →
    seps (tokA m c) (rowOf (t.cast N_0)) (1024 * (t.val % 8)) + cnt (iblk m c 0 t) n
      = seps (tokA m c) (rowOf (t.cast N_0)) (1024 * (t.val % 8) + n) := by
  intro n
  induction n with
  | zero => intro _; rfl
  | succ n ih =>
    intro hn
    have hi := ih (by omega)
    have hc : cnt (iblk m c 0 t) (n + 1) = cnt (iblk m c 0 t) n + if isSep (iblk m c 0 t) n then 1 else 0 :=
      Nat.count_succ _ _
    have hs : seps (tokA m c) (rowOf (t.cast N_0)) (1024 * (t.val % 8) + n + 1)
        = seps (tokA m c) (rowOf (t.cast N_0)) (1024 * (t.val % 8) + n)
          + if sepAt (tokA m c) (rowOf (t.cast N_0)) (1024 * (t.val % 8) + n) then 1 else 0 := Nat.count_succ _ _
    rw [← Nat.add_assoc (1024 * (t.val % 8)) n 1, hs, hc, ← hi, Nat.add_assoc]
    refine congrArg _ (congrArg _ ?_)
    by_cases h : isSep (iblk m c 0 t) n
    · rw [if_pos h, if_pos ((sep_blk m c t (by omega)).1 h)]
    · rw [if_neg h, if_neg (fun q => h ((sep_blk m c t (by omega)).2 q))]

/-- The carry at a point is how many separators its token row holds before the point's stretch. -/
theorem carry_eq (c : Dev nD) : ∀ (k : ℕ) (hk : k < 32),
    carry m c k = seps (tokA m c) (rowOf ⟨k, hk⟩) (1024 * (k % 8)) := by
  intro k
  induction k with
  | zero => intro _; rfl
  | succ k ih =>
    intro hk
    have hi := ih (by omega)
    have hN : k < cfg0.N := lt_of_lt_of_eq (show k < 32 by omega) N_0.symm
    have hb := cnt_blk m c ⟨k, hN⟩ 1024 le_rfl
    have ht := tok_at m c ⟨k, hN⟩
    change tok m c k = _ at ht
    show nextC k (carry m c k) (cnt (tok m c k) 1024) = _
    unfold nextC
    by_cases h : (k + 1) % 8 = 0
    · rw [if_pos h, h]; rfl
    · have hr : rowOf ⟨k + 1, hk⟩ = rowOf ⟨k, by omega⟩ := Fin.ext (by show (k + 1) / 8 = k / 8; omega)
      have hm : 1024 * ((k + 1) % 8) = 1024 * (k % 8) + 1024 := by omega
      rw [if_neg h, hi, ht, hr, hm]
      exact hb

/-! ### The result array -/

/-- The result before its last reshape. -/
def stacked (c : Dev nD) : S32x1024x1024.Idx → F .f32 := fun i =>
  result (xA m c) (tokA m c) (peA m c) (ix3 (rowOf (i 0)) (posOf (i 0) (i 1)) (i 2))

/-- What the body leaves in a block is the result there. -/
theorem block_eq (c : Dev nD) (t : Fin cfg0.N) (s l : Fin 1024) :
    outBlk (F := F) (iblk m c 1 t) (iblk m c 0 t) (pe m c) (carry m c t.val) (ix3 (0 : Fin 1) s l)
      = stacked m c (ix3 (t.cast N_0 : Fin 32) s l) := by
  have ht : t.val < 32 := lt_of_lt_of_eq t.isLt N_0
  have hs := s.isLt
  have hn := cnt_blk m c t (s.val + 1) (by omega)
  have hc := carry_eq m c t.val ht
  have hx := blk_x m c t s l
  have hp := pe_apply m c ⟨min (carry m c t.val + cnt (iblk m c 0 t) (s.val + 1)) 8191, by omega⟩ l
  refine (congrArg₂ FloatOps.addf hx hp).trans ?_
  refine congrArg (FloatOps.addf _) (congrArg (peA m c) (congrArg (fun p => ix3 (0 : Fin 1) p l) (Fin.ext ?_)))
  show min (carry m c t.val + cnt (iblk m c 0 t) (s.val + 1)) 8191
    = min (seps (tokA m c) (rowOf (t.cast N_0)) (1024 * (t.val % 8) + s.val + 1)) 8191
  rw [hc]
  exact congrArg (fun n => min n 8191) hn

/-- The array the launch leaves. -/
theorem arr_eq (c : Dev nD) : (dats m 0 c).arrAt 2 cfg0.N = stacked m c := by
  refine (dats m 0 c).arrAt_eq_of_covers 2 _ (by decide +kernel) fun t hf y => ?_
  obtain ⟨s, l, rfl⟩ : ∃ s l : Fin 1024, y = ix3 (0 : Fin 1) s l := by
    refine ⟨y 1, y 2, ?_⟩
    refine (eq_ix3 y).trans ?_
    refine congrArg (fun z => ix3 z (y 1) (y 2)) ?_
    exact Subsingleton.elim (α := Fin 1) _ _
  rw [emb2]
  refine Eq.trans ?_ (block_eq m c t s l)
  exact congrFun (after0_2 m c t) (ix3 (0 : Fin 1) s l)

/-- The program's result. -/
theorem out_eq (c : Dev nD) :
    Pipeline.afterTail₀ cfgs (dats m) 0 (Gen.V0 m) [hostOps1] c main_v4 = result (xA m c) (tokA m c) (peA m c) := by
  have e : Pipeline.withArrays (cfgs 0).spec c (Gen.V0 m c) (fun w => (dats m 0 c).arrAt w (cfgs 0).N) (Proc.devRef .tc main_v3)
      = stacked m c :=
    (Pipeline.withArrays_arr spec0 (by decide) c (Gen.V0 m c) (fun w => (dats m 0 c).arrAt w cfg0.N) 2).trans (arr_eq m c)
  have h : Pipeline.afterTail₀ cfgs (dats m) 0 (Gen.V0 m) [hostOps1] c main_v4
      = shapeCast S4x8192x1024 (stacked m c) shapeCasts_S32x1024x1024_S4x8192x1024 := by
    unfold Pipeline.afterTail₀
    simp only [List.flatten_cons, List.flatten_nil, List.append_nil, hostOps1]
    after_results_simp
    exact congrArg (fun A => shapeCast S4x8192x1024 A shapeCasts_S32x1024x1024_S4x8192x1024) e
  rw [h]
  funext i
  obtain ⟨b, q, l, rfl⟩ : ∃ (b : Fin 4) (q : Fin 8192) (l : Fin 1024), i = ix3 b q l := ⟨i 0, i 1, i 2, eq_ix3 i⟩
  have hb := b.isLt
  have hq := q.isLt
  refine (shapeCast_apply _ _ _ (ix3 (⟨b.val * 8 + q.val / 1024, by omega⟩ : Fin 32) (⟨q.val % 1024, by omega⟩ : Fin 1024) l) ?_).trans ?_
  · simp only [Shape.rowMajor_val_three]
    show ((b.val * 8 + q.val / 1024) * 1024 + q.val % 1024) * 1024 + l.val = (b.val * 8192 + q.val) * 1024 + l.val
    omega
  · have e1 : rowOf (⟨b.val * 8 + q.val / 1024, by omega⟩ : Fin 32) = b :=
      Fin.ext (by show (b.val * 8 + q.val / 1024) / 8 = b.val; omega)
    have e2 : posOf (⟨b.val * 8 + q.val / 1024, by omega⟩ : Fin 32) (⟨q.val % 1024, by omega⟩ : Fin 1024) = q :=
      Fin.ext (by show 1024 * ((b.val * 8 + q.val / 1024) % 8) + q.val % 1024 = q.val; omega)
    show result (xA m c) (tokA m c) (peA m c) (ix3 (rowOf _) (posOf _ _) l) = _
    rw [e1, e2]

/-- From any memory with every counter zero: the run ends with the stated value in the result and the arguments as they were. -/
theorem run_result : θ_run defs (onTc (τ := τ) (main (F := F))) ⟨m, fun _ => 0, ρ⟩ (fun r => ∀ c : Dev nD,
      r.2.mem ((c.tc : Thread nD τ).loc main_v4) = result (xA m c) (tokA m c) (peA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1).trans (out_eq m c), (h c).2⟩) (run_value m ρ)

end Cert.KernelIdeal.Hand
-- ==== Proof.ReferenceIdeal.Run.lean ====
module

public import proofs.«01_k».proof.Proof.Gen.ReferenceIdeal
public import Idealize.ShloMosaic.Lib.StableHlo.Run
public import Idealize.ShloMosaic.Adequacy
public import Idealize.ShloMosaic.Lib.Quiescent

@[expose] public section

set_option maxRecDepth 16384

/-! The reference's run: a straight line of host operations, and what it leaves in its result. -/

noncomputable section

namespace Cert.ReferenceIdeal.Hand

open Idealize.ShloMosaic Idealize.ShloMosaic.TcCoe Idealize.ShloMosaic.StableHlo Idealize.SL.Sem
open Cert.ReferenceIdeal Cert.ReferenceIdeal.Gen

variable {F : FTy → Type} [FloatOps F]

/-- The marks: 1 where the token is the separator, 0 elsewhere. -/
def marks (tok : S4x8192.Idx → BitVec 32) : S4x8192.Idx → BitVec 32 :=
  extui 32 (cmpi .eq tok (broadcastInDim S4x8192 ![] bcast_S_S4x8192 (constantI S_ 32 102#32))) natLt_1_32

/-- The running sums of the marks along each row. -/
def sums (tok : S4x8192.Idx → BitVec 32) : S4x8192.Idx → BitVec 32 :=
  Host.reduceWindow IntOp.addi ![1, 8192] ![1, 1] ![0, 8191] ![0, 0] (marks tok)
    (broadcastInDim S_ ![] bcast_S_S_ (constantI S_ 32 0#32))
    reduceWindows_S4x8192_S4x8192_w1s1p0_0_w8192s1p8191_0 h_S_

/-- The row numbers looked up: the running sums, a negative one counted from the end. -/
def poss (tok : S4x8192.Idx → BitVec 32) : S4x8192.Idx → BitVec 32 :=
  select (cmpi .slt (sums tok) (broadcastInDim S4x8192 ![] bcast_S_S4x8192 (constantI S_ 32 0#32)))
    (addi (sums tok) (broadcastInDim S4x8192 ![] bcast_S_S4x8192 (constantI S_ 32 8192#32)))
    (sums tok)

/-- The reference's result as a function of its three arguments. -/
def out (x : S4x8192x1024.Idx → F .f32) (tok : S4x8192.Idx → BitVec 32) (pe : S1x8192x1024.Idx → F .f32) :
    S4x8192x1024.Idx → F .f32 :=
  addf x (Host.gather gather_S8192x1024_S4x8192x1_S4x8192x1024_2_0_n_n_0_2_11024
    (shapeCast S8192x1024 pe shapeCasts_S1x8192x1024_S8192x1024)
    (broadcastInDim S4x8192x1 ![0, 1] bcast_S4x8192_S4x8192x1_0_1 (poss tok)))

/-- The reference's operations in order. -/
abbrev ops : List (HloOp τ sig (Elt F)) :=
  [ nullary main_c (constantI S_ 32 102#32),
    unary main_c main_v0 (broadcastInDim S4x8192 ![] bcast_S_S4x8192),
    binary main_arg1 main_v0 main_v1 (cmpi .eq),
    unary main_v1 main_v2 (extui 32 · natLt_1_32),
    TRef.nullary main_call0.call0.c (constantI S_ 32 0#32),
    TRef.unary main_call0.call0.c main_call0.call0.v0 (broadcastInDim S_ ![] bcast_S_S_),
    TRef.binary (.of main_v2) main_call0.call0.v0 main_call0.call0.v1
      (fun x v => Host.reduceWindow IntOp.addi ![1, 8192] ![1, 1] ![0, 8191] ![0, 0] x v
        reduceWindows_S4x8192_S4x8192_w1s1p0_0_w8192s1p8191_0 h_S_),
    reshape main_arg2 main_v4 (rfl : (.f32 : EltTy) = .f32) shapeCasts_S1x8192x1024_S8192x1024,
    nullary main_c_0 (constantI S_ 32 0#32),
    unary main_c_0 main_v5 (broadcastInDim S4x8192 ![] bcast_S_S4x8192),
    binary main_v3 main_v5 main_v6 (cmpi .slt),
    nullary main_c_1 (constantI S_ 32 8192#32),
    unary main_c_1 main_v7 (broadcastInDim S4x8192 ![] bcast_S_S4x8192),
    binary main_v3 main_v7 main_v8 addi,
    ternary main_v6 main_v8 main_v3 main_v9 select,
    unary main_v9 main_v10 (broadcastInDim S4x8192x1 ![0, 1] bcast_S4x8192_S4x8192x1_0_1),
    binary main_v4 main_v10 main_v11
      (fun x i => Host.gather gather_S8192x1024_S4x8192x1_S4x8192x1024_2_0_n_n_0_2_11024 x i),
    binary main_arg0 main_v11 main_v12 addf ]

/-- The program is that straight line. -/
theorem main_eq (c : Dev nD) : main (F := F) c = seq ops := by
  simp only [main, fn_cumsum.body, fn_cumsum_0.body, seq, bind_assoc, pure_bind]
  rfl

attribute [local irreducible] Host.reduceWindow Host.gather in
/-- The line leaves `out` of the arguments in the result. -/
theorem out_eq (V : Valuation τ sig (Elt F)) :
    after ops V (main_v12 : DevRef τ sig)
      = out (V (main_arg0 : DevRef τ sig)) (V (main_arg1 : DevRef τ sig)) (V (main_arg2 : DevRef τ sig)) := by
  after_results_simp
  unfold out poss sums marks
  rfl

/-- No operation writes the first argument. -/
theorem arg0_eq (V : Valuation τ sig (Elt F)) :
    after ops V (main_arg0 : DevRef τ sig) = V (main_arg0 : DevRef τ sig) := by
  simp only [after_cons, after_nil]
  rfl

/-- No operation writes the second argument. -/
theorem arg1_eq (V : Valuation τ sig (Elt F)) :
    after ops V (main_arg1 : DevRef τ sig) = V (main_arg1 : DevRef τ sig) := by
  simp only [after_cons, after_nil]
  rfl

/-- No operation writes the third argument. -/
theorem arg2_eq (V : Valuation τ sig (Elt F)) :
    after ops V (main_arg2 : DevRef τ sig) = V (main_arg2 : DevRef τ sig) := by
  simp only [after_cons, after_nil]
  rfl

/-- No buffer is scoped. -/
theorem no_scoped_refs : (Finset.univ.filter fun b : Ref sig .tc => b.isScoped) = ∅ := by decide
/-- No semaphore is scoped. -/
theorem no_scoped_sems : (Finset.univ.filter fun sm : SemLoc sig => sm.isScoped .tc) = ∅ := by decide

/-- Every operation touches the program's own buffers. -/
theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub ..,
    binary_bufs_sub .., reshape_bufs_sub .., nullary_bufs_sub .., unary_bufs_sub .., binary_bufs_sub ..,
    nullary_bufs_sub .., unary_bufs_sub .., binary_bufs_sub .., ternary_bufs_sub .., unary_bufs_sub ..,
    binary_bufs_sub .., binary_bufs_sub ..⟩

/-- From any memory with every counter zero: the run ends, with `out` of the arguments in the result, the arguments
    as they were and every counter zero. -/
theorem run_value (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v12)
          = out (m ((c.tc : Thread nD τ).loc main_arg0)) (m ((c.tc : Thread nD τ).loc main_arg1))
              (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono
    (fun r h => ⟨fun c => ⟨(h c main_v12).trans (out_eq _), (h c main_arg0).trans (arg0_eq _),
        (h c main_arg1).trans (arg1_eq _), (h c main_arg2).trans (arg2_eq _)⟩,
      Idealize.ShloMosaic.sem_eq_zero_of_no_sems (by decide) r.2⟩)
    (run_seq no_scoped_refs no_scoped_sems defs main (fun _ => ops) main_eq (fun _ => ops_sub) m ρ)

end Cert.ReferenceIdeal.Hand
-- ==== Proof.ReferenceIdeal.Value.lean ====
module

public import proofs.«01_k».proof.Proof.ReferenceIdeal.Run
public import proofs.«01_k».proof.Proof.Spec
public import Idealize.ShloMosaic.Lib.Routing.Ops
public import Idealize.ShloMosaic.Lib.Pipeline.Value

@[expose] public section

set_option maxRecDepth 16384

/-! The reference's result is the value stated in Spec. -/

noncomputable section

namespace Cert.ReferenceIdeal.Hand

open Idealize.ShloMosaic Idealize.ShloMosaic.TcCoe Idealize.ShloMosaic.StableHlo Idealize.SL.Sem
open Idealize.ShloMosaic.ValueIdx Idealize.ShloMosaic.Routing
open Cert.ReferenceIdeal Cert.ReferenceIdeal.Gen Cert.Spec

variable {F : FTy → Type} [FloatOps F]

/-- A mark is 1 at a separator and 0 elsewhere. -/
theorem marks_apply (tok : S4x8192.Idx → BitVec 32) (b : Fin 4) (j : Fin 8192) :
    marks tok (ix2 b j) = BitVec.ofNat 32 (if sepAt tok b j.val then 1 else 0) := by
  have e : sepAt tok b j.val ↔ tok (ix2 b j) = 102#32 := ⟨fun ⟨_, h⟩ => h, fun h => ⟨j.isLt, h⟩⟩
  show (BitVec.ofBool (tok (ix2 b j) == 102#32)).setWidth 32 = _
  by_cases h : tok (ix2 b j) = 102#32
  · rw [if_pos (e.2 h), beq_iff_eq.2 h]; rfl
  · rw [if_neg (fun q => h (e.1 q)), beq_eq_false_iff_ne.2 h]; rfl

/-- A count is the sum of the marks. -/
theorem count_sum (p : ℕ → Prop) [DecidablePred p] (n : ℕ) :
    ((List.range n).map fun i => if p i then 1 else 0).sum = Nat.count p n := by
  induction n with
  | zero => rfl
  | succ n ih =>
    rw [List.range_succ, List.map_append, List.sum_append, ih, Nat.count_succ]
    simp

/-- The windowed sums of one row depend on that row alone. -/
theorem window_row (x : S4x8192.Idx → BitVec 32) (init : S_.Idx → BitVec 32)
    (h : S4x8192.ReduceWindows (![1, 8192] : Fin 2 → Nat) ![1, 1] ![0, 8191] ![0, 0] S4x8192)
    (h' : (shape2 1 8192).ReduceWindows (![1, 8192] : Fin 2 → Nat) ![1, 1] ![0, 8191] ![0, 0] (shape2 1 8192))
    (hu : 0 < S_.numel) (b : Fin 4) (j : Fin 8192) :
    Host.reduceWindow IntOp.addi ![1, 8192] ![1, 1] ![0, 8191] ![0, 0] x init h hu (ix2 b j)
      = Host.reduceWindow IntOp.addi ![1, 8192] ![1, 1] ![0, 8191] ![0, 0]
          (fun i : (shape2 1 8192).Idx => x (ix2 b (i 1))) init h' hu (ix2 (0 : Fin 1) j) := by
  unfold Host.reduceWindow
  refine congrArg (fun g => List.foldl g (init (Shape.Idx.first hu)) (List.finRange (shape2 1 8192).numel))
    (funext fun r => funext fun n => congrArg (IntOp.addi r) ?_)
  have hw0 : ((shape2 1 8192).rowMajor.symm n 0).val = 0 := by
    have := ((shape2 1 8192).rowMajor.symm n 0).isLt
    change _ < 1 at this
    omega
  have hb := b.isLt
  by_cases hc : 8191 ≤ j.val * 1 + ((shape2 1 8192).rowMajor.symm n 1).val ∧ j.val * 1 + ((shape2 1 8192).rowMajor.symm n 1).val - 8191 < 8192
  · rw [dif_pos, dif_pos]
    · refine congrArg x (funext fun a => ?_)
      match a with
      | ⟨0, _⟩ => refine Fin.ext ?_; show b.val * 1 + ((shape2 1 8192).rowMajor.symm n 0).val - 0 = b.val; rw [hw0]; omega
      | ⟨1, _⟩ => rfl
    · intro a
      match a with
      | ⟨0, _⟩ => show 0 ≤ 0 * 1 + ((shape2 1 8192).rowMajor.symm n 0).val ∧ 0 * 1 + ((shape2 1 8192).rowMajor.symm n 0).val - 0 < 1; rw [hw0]; omega
      | ⟨1, _⟩ => exact hc
    · intro a
      match a with
      | ⟨0, _⟩ => show 0 ≤ b.val * 1 + ((shape2 1 8192).rowMajor.symm n 0).val ∧ b.val * 1 + ((shape2 1 8192).rowMajor.symm n 0).val - 0 < 4; rw [hw0]; omega
      | ⟨1, _⟩ => exact hc
  · rw [dif_neg (fun q => hc (q 1)), dif_neg (fun q => hc (q 1))]

/-- The running sum at a position is the count of separators up to it. -/
theorem sums_apply (tok : S4x8192.Idx → BitVec 32) (b : Fin 4) (j : Fin 8192) :
    sums tok (ix2 b j) = BitVec.ofNat 32 (seps tok b (j.val + 1)) := by
  have h' : (shape2 1 8192).ReduceWindows (![1, 8192] : Fin 2 → Nat) ![1, 1] ![0, 8191] ![0, 0] (shape2 1 8192) := by decide
  unfold sums
  refine (window_row _ _ _ h' _ b j).trans ?_
  refine (cumsum2 (N := 8192) (Nm1 := 8191) rfl _ (fun i => if sepAt tok b i then 1 else 0)
    (fun i => marks_apply tok b i) _ rfl _ _ j).trans ?_
  rw [count_sum]
  rfl

attribute [local irreducible] sums in
/-- No sum is negative: the row number is the sum. -/
theorem poss_apply (tok : S4x8192.Idx → BitVec 32) (b : Fin 4) (j : Fin 8192) :
    poss tok (ix2 b j) = BitVec.ofNat 32 (seps tok b (j.val + 1)) := by
  have hle := seps_le tok b (j.val + 1)
  have hj := j.isLt
  have hs := sums_apply tok b j
  show (if BitVec.ofBool (BitVec.slt (sums tok (ix2 b j)) 0#32) = 1 then _ else sums tok (ix2 b j)) = _
  have hn : BitVec.slt (sums tok (ix2 b j)) 0#32 = false := by
    rw [hs, BitVec.slt, StableHlo.Predicate.toInt_ofNat_small _ (by omega)]
    simp
  rw [hn, if_neg (by decide), hs]

/-- The row looked up: the last one when the number runs past it. -/
theorem gather_apply (T : S8192x1024.Idx → F .f32) (idx : S4x8192x1.Idx → BitVec 32) (b : Fin 4) (q : Fin 8192)
    (l : Fin 1024) (p : ℕ) (hp : p ≤ 8192) (hidx : idx (ix3 b q (0 : Fin 1)) = BitVec.ofNat 32 p) :
    Host.gather gather_S8192x1024_S4x8192x1_S4x8192x1024_2_0_n_n_0_2_11024 T idx (ix3 b q l)
      = T (ix2 (⟨min p 8191, by omega⟩ : Fin 8192) l) := by
  unfold Host.gather
  refine congrArg T (funext fun a => Fin.ext ?_)
  have hsi : gather_S8192x1024_S4x8192x1_S4x8192x1024_2_0_n_n_0_2_11024.siIdx (ix3 b q l) ⟨0, Nat.one_pos⟩
      = ix3 b q (0 : Fin 1) := by
    funext a
    match a with
    | ⟨0, _⟩ => rfl
    | ⟨1, _⟩ => rfl
    | ⟨2, _⟩ => rfl
  match a with
  | ⟨0, _⟩ =>
    show min (idx (gather_S8192x1024_S4x8192x1_S4x8192x1024_2_0_n_n_0_2_11024.siIdx (ix3 b q l) ⟨0, Nat.one_pos⟩)).toInt.toNat 8191
      + 0 + 0 = min p 8191
    rw [hsi, hidx, StableHlo.Predicate.toInt_ofNat_small _ (by omega)]
    simp
  | ⟨1, _⟩ => show 0 + 0 + l.val = l.val; omega

/-- The reference's result, entry by entry. -/
theorem out_result (x : S4x8192x1024.Idx → F .f32) (tok : S4x8192.Idx → BitVec 32) (pe : S1x8192x1024.Idx → F .f32) :
    out x tok pe = result x tok pe := by
  funext i
  obtain ⟨b, q, l, rfl⟩ : ∃ (b : Fin 4) (q : Fin 8192) (l : Fin 1024), i = ix3 b q l := ⟨i 0, i 1, i 2, eq_ix3 i⟩
  have hq := q.isLt
  have hle := seps_le tok b (q.val + 1)
  refine congrArg (FloatOps.addf (x (ix3 b q l))) ?_
  refine (gather_apply _ _ b q l (seps tok b (q.val + 1)) (by omega) ?_).trans ?_
  · refine Eq.trans ?_ (poss_apply tok b q)
    refine congrArg (poss tok) (funext fun a => ?_)
    match a with
    | ⟨0, _⟩ => rfl
    | ⟨1, _⟩ => rfl
  · exact shapeCast_apply _ _ _ _ (by simp [Shape.rowMajor_val_three, Shape.rowMajor_val_two])

end Cert.ReferenceIdeal.Hand
-- ==== Proof.lean ====
module

public import proofs.«01_k».proof.Defs
public import proofs.«01_k».proof.Proof.Kernel.Frame
public import proofs.«01_k».proof.Proof.KernelIdeal.Value
public import proofs.«01_k».proof.Proof.ReferenceIdeal.Value
public import Idealize.ShloMosaic.Adequacy
public import Idealize.ShloMosaic.Init

@[expose] public section

noncomputable section

namespace Cert.Proof

open Idealize.ShloMosaic Idealize.ShloMosaic.TcCoe Idealize.SL.Sem

/-- The kernel's run ends with its arguments as they were and every counter zero. -/
theorem frame_kernel : Cert.quiescent_Kernel := fun m g _ => Cert.Kernel.Hand.frame m g

/-- So does its ideal form's. -/
theorem frame_ideal : Cert.quiescent_KernelIdeal := fun m g _ => Cert.KernelIdeal.Hand.frame m g

/-- So does the reference's. -/
theorem frame_reference : Cert.quiescent_ReferenceIdeal := fun m g _ =>
  (θ_run Cert.ReferenceIdeal.defs _ _).mono (fun _ h => ⟨fun c => (h.1 c).2, h.2⟩)
    (Cert.ReferenceIdeal.Hand.run_value m g)

/-- From the same arguments the kernel's ideal form and the reference return the same array: every entry of `x` plus the
    table's row counted by the separators up to its position. -/
theorem same_result : Cert.algebraic_KernelIdeal_ReferenceIdeal := by
  intro m g m' g' _ hagree
  refine ⟨fun c => Cert.Spec.result (Cert.KernelIdeal.Hand.xA m c) (Cert.KernelIdeal.Hand.tokA m c)
    (Cert.KernelIdeal.Hand.peA m c), Cert.KernelIdeal.Hand.run_result m g, ?_⟩
  refine (θ_run Cert.ReferenceIdeal.defs _ _).mono (fun r h c => ⟨?_, (h.1 c).2⟩)
    (Cert.ReferenceIdeal.Hand.run_value m' g')
  refine ((h.1 c).1.trans (Cert.ReferenceIdeal.Hand.out_result _ _ _)).trans ?_
  obtain ⟨h0, h1, h2⟩ := hagree c
  rw [h0, h1, h2]

/-- Everything the certificate claims. -/
theorem claim : Cert.Claim :=
  ⟨Cert.Kernel.Gen.facts, Cert.KernelIdeal.Gen.facts, Cert.ReferenceIdeal.Gen.facts,
    frame_kernel, frame_ideal, frame_reference, trivial, same_result⟩

end Cert.Proof

end
